-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x20x128 : Shape := ⟨4, ![2, 1024, 20, 128]⟩
abbrev S20 : Shape := ⟨1, ![20]⟩
abbrev S20x6x11 : Shape := ⟨3, ![20, 6, 11]⟩
abbrev S5x4x4 : Shape := ⟨3, ![5, 4, 4]⟩
abbrev S_ : Shape := ⟨0, ![]⟩
abbrev S2x20x1024x128 : Shape := ⟨4, ![2, 20, 1024, 128]⟩
abbrev S2x20x1056x128 : Shape := ⟨4, ![2, 20, 1056, 128]⟩
abbrev S20x66 : Shape := ⟨2, ![20, 66]⟩
abbrev S5x16 : Shape := ⟨2, ![5, 16]⟩
abbrev S2x1024x2560 : Shape := ⟨3, ![2, 1024, 2560]⟩
abbrev S1x4x1056x128 : Shape := ⟨4, ![1, 4, 1056, 128]⟩
abbrev S1x4x1024x128 : Shape := ⟨4, ![1, 4, 1024, 128]⟩
abbrev S1x128x512 : Shape := ⟨3, ![1, 128, 512]⟩
abbrev S4x128x1024 : Shape := ⟨3, ![4, 128, 1024]⟩
abbrev S1x1024 : Shape := ⟨2, ![1, 1024]⟩
abbrev S160x1 : Shape := ⟨2, ![160, 1]⟩
abbrev S128x1 : Shape := ⟨2, ![128, 1]⟩
abbrev S1x1x160x128 : Shape := ⟨4, ![1, 1, 160, 128]⟩
abbrev S160x128 : Shape := ⟨2, ![160, 128]⟩
abbrev S1x1x1024x128 : Shape := ⟨4, ![1, 1, 1024, 128]⟩
abbrev S1024x128 : Shape := ⟨2, ![1024, 128]⟩
abbrev S160x1024 : Shape := ⟨2, ![160, 1024]⟩
abbrev S1 : Shape := ⟨1, ![1]⟩
abbrev S1x1 : Shape := ⟨2, ![1, 1]⟩
abbrev S128x1024 : Shape := ⟨2, ![128, 1024]⟩
abbrev S1x128x1024 : Shape := ⟨3, ![1, 128, 1024]⟩
abbrev S128 : Shape := ⟨1, ![128]⟩
abbrev S128x128 : Shape := ⟨2, ![128, 128]⟩
abbrev S1x128x128 : Shape := ⟨3, ![1, 128, 128]⟩

abbrev nBuf : Space → Nat
  | .hbm => 21
  | .vmem => 9
  | .smem => 4
  | _ => 0

abbrev bufTy : (tb : Table) → Fin (tcTables nBuf tb) → BufTy
  | .hbm, ⟨0, _⟩ => ⟨S2x1024x20x128, .fp8e4m3⟩
  | .hbm, ⟨1, _⟩ => ⟨S20, .f32⟩
  | .hbm, ⟨2, _⟩ => ⟨S2x1024x20x128, .fp8e4m3⟩
  | .hbm, ⟨3, _⟩ => ⟨S20, .f32⟩
  | .hbm, ⟨4, _⟩ => ⟨S2x1024x20x128, .fp8e4m3⟩
  | .hbm, ⟨5, _⟩ => ⟨S20, .f32⟩
  | .hbm, ⟨6, _⟩ => ⟨S20x6x11, .f32⟩
  | .hbm, ⟨7, _⟩ => ⟨S5x4x4, .f32⟩
  | .hbm, ⟨8, _⟩ => ⟨S_, .i8⟩
  | .hbm, ⟨9, _⟩ => ⟨S_, .fp8e4m3⟩
  | .hbm, ⟨10, _⟩ => ⟨S2x20x1024x128, .fp8e4m3⟩
  | .hbm, ⟨11, _⟩ => ⟨S2x20x1056x128, .fp8e4m3⟩
  | .hbm, ⟨12, _⟩ => ⟨S2x20x1024x128, .fp8e4m3⟩
  | .hbm, ⟨13, _⟩ => ⟨S2x20x1024x128, .fp8e4m3⟩
  | .hbm, ⟨14, _⟩ => ⟨S20, .f32⟩
  | .hbm, ⟨15, _⟩ => ⟨S_, .f32⟩
  | .hbm, ⟨16, _⟩ => ⟨S20, .f32⟩
  | .hbm, ⟨17, _⟩ => ⟨S20, .f32⟩
  | .hbm, ⟨18, _⟩ => ⟨S20x66, .f32⟩
  | .hbm, ⟨19, _⟩ => ⟨S5x16, .f32⟩
  | .hbm, ⟨20, _⟩ => ⟨S2x1024x2560, .bf16⟩
  | .local _ .vmem, ⟨0, _⟩ => ⟨S1x4x1056x128, .fp8e4m3⟩
  | .local _ .vmem, ⟨1, _⟩ => ⟨S1x4x1056x128, .fp8e4m3⟩
  | .local _ .vmem, ⟨2, _⟩ => ⟨S1x4x1024x128, .fp8e4m3⟩
  | .local _ .vmem, ⟨3, _⟩ => ⟨S1x4x1024x128, .fp8e4m3⟩
  | .local _ .vmem, ⟨4, _⟩ => ⟨S1x4x1024x128, .fp8e4m3⟩
  | .local _ .vmem, ⟨5, _⟩ => ⟨S1x4x1024x128, .fp8e4m3⟩
  | .local _ .vmem, ⟨6, _⟩ => ⟨S1x128x512, .bf16⟩
  | .local _ .vmem, ⟨7, _⟩ => ⟨S1x128x512, .bf16⟩
  | .local _ .vmem, ⟨8, _⟩ => ⟨S4x128x1024, .f32⟩
  | .local _ .smem, ⟨0, _⟩ => ⟨S20, .f32⟩
  | .local _ .smem, ⟨1, _⟩ => ⟨S20, .f32⟩
  | .local _ .smem, ⟨2, _⟩ => ⟨S20x66, .f32⟩
  | .local _ .smem, ⟨3, _⟩ => ⟨S5x16, .f32⟩
  | _, _ => ⟨S2x1024x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![2, 5, 8], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 4 → Nat :=
  let c0 : Index := 0#32
  let c0_0 : Index := 0#32
  let arg2 : BitVec 32 := BitVec.ofNat 32 (i 2).val
  let c128_i32 : BitVec 32 := 128#32
  let v0 : BitVec 32 := Scalar.muli arg2 c128_i32
  let v11 : BitVec 32 := v0
  let v12 : Index := Scalar.indexCast v11
  let c0_1 : Index := 0#32
  ![0, 0, v12.toNat, 0]
def k0_off2 (i : grid0.Coords) (c0_i32 : BitVec 32) : Fin 1 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v21 : Index := Scalar.indexCast v10
  ![v21.toNat]
def k0_off3 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v27 : Index := Scalar.indexCast v10
  let c0_7 : Index := 0#32
  ![v27.toNat, 0]
def k0_off4 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v32 : Index := Scalar.indexCast v10
  let c11 : Index := 11#32
  ![v32.toNat, 11]
def k0_off5 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v38 : Index := Scalar.indexCast v10
  let c22 : Index := 22#32
  ![v38.toNat, 22]
def k0_off6 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v44 : Index := Scalar.indexCast v10
  let c33 : Index := 33#32
  ![v44.toNat, 33]
def k0_off7 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v50 : Index := Scalar.indexCast v10
  let c44 : Index := 44#32
  ![v50.toNat, 44]
def k0_off8 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v56 : Index := Scalar.indexCast v10
  let c55 : Index := 55#32
  ![v56.toNat, 55]
def k0_off9 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v74 : Index := Scalar.indexCast v10
  let c1 : Index := 1#32
  ![v74.toNat, 1]
def k0_off10 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v79 : Index := Scalar.indexCast v10
  let c12 : Index := 12#32
  ![v79.toNat, 12]
def k0_off11 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v85 : Index := Scalar.indexCast v10
  let c23 : Index := 23#32
  ![v85.toNat, 23]
def k0_off12 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v91 : Index := Scalar.indexCast v10
  let c34 : Index := 34#32
  ![v91.toNat, 34]
def k0_off13 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v97 : Index := Scalar.indexCast v10
  let c45 : Index := 45#32
  ![v97.toNat, 45]
def k0_off14 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v103 : Index := Scalar.indexCast v10
  let c56 : Index := 56#32
  ![v103.toNat, 56]
def k0_off15 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v122 : Index := Scalar.indexCast v10
  let c2 : Index := 2#32
  ![v122.toNat, 2]
def k0_off16 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v127 : Index := Scalar.indexCast v10
  let c13 : Index := 13#32
  ![v127.toNat, 13]
def k0_off17 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v133 : Index := Scalar.indexCast v10
  let c24 : Index := 24#32
  ![v133.toNat, 24]
def k0_off18 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v139 : Index := Scalar.indexCast v10
  let c35 : Index := 35#32
  ![v139.toNat, 35]
def k0_off19 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v145 : Index := Scalar.indexCast v10
  let c46 : Index := 46#32
  ![v145.toNat, 46]
def k0_off20 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v151 : Index := Scalar.indexCast v10
  let c57 : Index := 57#32
  ![v151.toNat, 57]
def k0_off21 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v170 : Index := Scalar.indexCast v10
  let c3 : Index := 3#32
  ![v170.toNat, 3]
def k0_off22 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v175 : Index := Scalar.indexCast v10
  let c14 : Index := 14#32
  ![v175.toNat, 14]
def k0_off23 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v181 : Index := Scalar.indexCast v10
  let c25 : Index := 25#32
  ![v181.toNat, 25]
def k0_off24 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v187 : Index := Scalar.indexCast v10
  let c36 : Index := 36#32
  ![v187.toNat, 36]
def k0_off25 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v193 : Index := Scalar.indexCast v10
  let c47 : Index := 47#32
  ![v193.toNat, 47]
def k0_off26 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v199 : Index := Scalar.indexCast v10
  let c58 : Index := 58#32
  ![v199.toNat, 58]
def k0_off27 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v218 : Index := Scalar.indexCast v10
  let c4 : Index := 4#32
  ![v218.toNat, 4]
def k0_off28 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v223 : Index := Scalar.indexCast v10
  let c15 : Index := 15#32
  ![v223.toNat, 15]
def k0_off29 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v229 : Index := Scalar.indexCast v10
  let c26 : Index := 26#32
  ![v229.toNat, 26]
def k0_off30 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v235 : Index := Scalar.indexCast v10
  let c37 : Index := 37#32
  ![v235.toNat, 37]
def k0_off31 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v241 : Index := Scalar.indexCast v10
  let c48 : Index := 48#32
  ![v241.toNat, 48]
def k0_off32 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v247 : Index := Scalar.indexCast v10
  let c59 : Index := 59#32
  ![v247.toNat, 59]
def k0_off33 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v266 : Index := Scalar.indexCast v10
  let c5 : Index := 5#32
  ![v266.toNat, 5]
def k0_off34 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v271 : Index := Scalar.indexCast v10
  let c16 : Index := 16#32
  ![v271.toNat, 16]
def k0_off35 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v277 : Index := Scalar.indexCast v10
  let c27 : Index := 27#32
  ![v277.toNat, 27]
def k0_off36 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v283 : Index := Scalar.indexCast v10
  let c38 : Index := 38#32
  ![v283.toNat, 38]
def k0_off37 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v289 : Index := Scalar.indexCast v10
  let c49 : Index := 49#32
  ![v289.toNat, 49]
def k0_off38 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v295 : Index := Scalar.indexCast v10
  let c60 : Index := 60#32
  ![v295.toNat, 60]
def k0_off39 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v302 : Index := Scalar.indexCast v10
  let c6 : Index := 6#32
  ![v302.toNat, 6]
def k0_off40 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v307 : Index := Scalar.indexCast v10
  let c17 : Index := 17#32
  ![v307.toNat, 17]
def k0_off41 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v313 : Index := Scalar.indexCast v10
  let c28 : Index := 28#32
  ![v313.toNat, 28]
def k0_off42 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v319 : Index := Scalar.indexCast v10
  let c39 : Index := 39#32
  ![v319.toNat, 39]
def k0_off43 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v325 : Index := Scalar.indexCast v10
  let c50 : Index := 50#32
  ![v325.toNat, 50]
def k0_off44 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v331 : Index := Scalar.indexCast v10
  let c61 : Index := 61#32
  ![v331.toNat, 61]
def k0_off45 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v350 : Index := Scalar.indexCast v10
  let c7 : Index := 7#32
  ![v350.toNat, 7]
def k0_off46 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v355 : Index := Scalar.indexCast v10
  let c18 : Index := 18#32
  ![v355.toNat, 18]
def k0_off47 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v361 : Index := Scalar.indexCast v10
  let c29 : Index := 29#32
  ![v361.toNat, 29]
def k0_off48 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v367 : Index := Scalar.indexCast v10
  let c40 : Index := 40#32
  ![v367.toNat, 40]
def k0_off49 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v373 : Index := Scalar.indexCast v10
  let c51 : Index := 51#32
  ![v373.toNat, 51]
def k0_off50 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v379 : Index := Scalar.indexCast v10
  let c62 : Index := 62#32
  ![v379.toNat, 62]
def k0_off51 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v398 : Index := Scalar.indexCast v10
  let c8 : Index := 8#32
  ![v398.toNat, 8]
def k0_off52 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v403 : Index := Scalar.indexCast v10
  let c19 : Index := 19#32
  ![v403.toNat, 19]
def k0_off53 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v409 : Index := Scalar.indexCast v10
  let c30 : Index := 30#32
  ![v409.toNat, 30]
def k0_off54 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v415 : Index := Scalar.indexCast v10
  let c41 : Index := 41#32
  ![v415.toNat, 41]
def k0_off55 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v421 : Index := Scalar.indexCast v10
  let c52 : Index := 52#32
  ![v421.toNat, 52]
def k0_off56 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v427 : Index := Scalar.indexCast v10
  let c63 : Index := 63#32
  ![v427.toNat, 63]
def k0_off57 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v446 : Index := Scalar.indexCast v10
  let c9 : Index := 9#32
  ![v446.toNat, 9]
def k0_off58 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v451 : Index := Scalar.indexCast v10
  let c20 : Index := 20#32
  ![v451.toNat, 20]
def k0_off59 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v457 : Index := Scalar.indexCast v10
  let c31 : Index := 31#32
  ![v457.toNat, 31]
def k0_off60 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v463 : Index := Scalar.indexCast v10
  let c42 : Index := 42#32
  ![v463.toNat, 42]
def k0_off61 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v469 : Index := Scalar.indexCast v10
  let c53 : Index := 53#32
  ![v469.toNat, 53]
def k0_off62 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v475 : Index := Scalar.indexCast v10
  let c64 : Index := 64#32
  ![v475.toNat, 64]
def k0_off63 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v494 : Index := Scalar.indexCast v10
  let c10 : Index := 10#32
  ![v494.toNat, 10]
def k0_off64 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v499 : Index := Scalar.indexCast v10
  let c21 : Index := 21#32
  ![v499.toNat, 21]
def k0_off65 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v505 : Index := Scalar.indexCast v10
  let c32 : Index := 32#32
  ![v505.toNat, 32]
def k0_off66 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v511 : Index := Scalar.indexCast v10
  let c43 : Index := 43#32
  ![v511.toNat, 43]
def k0_off67 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v517 : Index := Scalar.indexCast v10
  let c54 : Index := 54#32
  ![v517.toNat, 54]
def k0_off68 (i : grid0.Coords) (c0_i32 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v523 : Index := Scalar.indexCast v10
  let c65 : Index := 65#32
  ![v523.toNat, 65]
def k0_mult2 (i : grid0.Coords) : BitVec 32 :=
  let arg2 : BitVec 32 := BitVec.ofNat 32 (i 2).val
  let c128_i32 : BitVec 32 := 128#32
  let v0 : BitVec 32 := Scalar.muli arg2 c128_i32
  v0
def k0_off69 (i : grid0.Coords) : Fin 4 → Nat :=
  let c0_48 : Index := 0#32
  let c1_49 : Index := 1#32
  let arg2 : BitVec 32 := BitVec.ofNat 32 (i 2).val
  let c128_i32 : BitVec 32 := 128#32
  let v0 : BitVec 32 := Scalar.muli arg2 c128_i32
  let v547 : BitVec 32 := v0
  let v548 : Index := Scalar.indexCast v547
  let c0_50 : Index := 0#32
  ![0, 1, v548.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  v0
def k0_off70 (i : grid0.Coords) : Fin 4 → Nat :=
  let c0_178 : Index := 0#32
  let c2_179 : Index := 2#32
  let arg2 : BitVec 32 := BitVec.ofNat 32 (i 2).val
  let c128_i32 : BitVec 32 := 128#32
  let v0 : BitVec 32 := Scalar.muli arg2 c128_i32
  let v1083 : BitVec 32 := v0
  let v1084 : Index := Scalar.indexCast v1083
  let c0_180 : Index := 0#32
  ![0, 2, v1084.toNat, 0]
def k0_mult4 (i : grid0.Coords) : BitVec 32 :=
  let arg2 : BitVec 32 := BitVec.ofNat 32 (i 2).val
  let c128_i32 : BitVec 32 := 128#32
  let v0 : BitVec 32 := Scalar.muli arg2 c128_i32
  v0
def k0_off71 (i : grid0.Coords) : Fin 4 → Nat :=
  let c0_308 : Index := 0#32
  let c3_309 : Index := 3#32
  let arg2 : BitVec 32 := BitVec.ofNat 32 (i 2).val
  let c128_i32 : BitVec 32 := 128#32
  let v0 : BitVec 32 := Scalar.muli arg2 c128_i32
  let v1619 : BitVec 32 := v0
  let v1620 : Index := Scalar.indexCast v1619
  let c0_310 : Index := 0#32
  ![0, 3, v1620.toNat, 0]
def k0_off72 (i : grid0.Coords) : Fin 2 → Nat :=
  let arg1 : BitVec 32 := BitVec.ofNat 32 (i 1).val
  let v2153 : Index := Scalar.indexCast arg1
  let c0_436 : Index := 0#32
  ![v2153.toNat, 0]
def k0_off73 (i : grid0.Coords) : Fin 2 → Nat :=
  let arg1 : BitVec 32 := BitVec.ofNat 32 (i 1).val
  let v2159 : Index := Scalar.indexCast arg1
  let c1_440 : Index := 1#32
  ![v2159.toNat, 1]
def k0_off74 (i : grid0.Coords) : Fin 2 → Nat :=
  let arg1 : BitVec 32 := BitVec.ofNat 32 (i 1).val
  let v2166 : Index := Scalar.indexCast arg1
  let c2_444 : Index := 2#32
  ![v2166.toNat, 2]
def k0_off75 (i : grid0.Coords) : Fin 2 → Nat :=
  let arg1 : BitVec 32 := BitVec.ofNat 32 (i 1).val
  let v2173 : Index := Scalar.indexCast arg1
  let c3_448 : Index := 3#32
  ![v2173.toNat, 3]
def k0_off76 (i : grid0.Coords) : Fin 2 → Nat :=
  let arg1 : BitVec 32 := BitVec.ofNat 32 (i 1).val
  let v2289 : Index := Scalar.indexCast arg1
  let c4_485 : Index := 4#32
  ![v2289.toNat, 4]
def k0_off77 (i : grid0.Coords) : Fin 2 → Nat :=
  let arg1 : BitVec 32 := BitVec.ofNat 32 (i 1).val
  let v2295 : Index := Scalar.indexCast arg1
  let c5_489 : Index := 5#32
  ![v2295.toNat, 5]
def k0_off78 (i : grid0.Coords) : Fin 2 → Nat :=
  let arg1 : BitVec 32 := BitVec.ofNat 32 (i 1).val
  let v2302 : Index := Scalar.indexCast arg1
  let c6_493 : Index := 6#32
  ![v2302.toNat, 6]
def k0_off79 (i : grid0.Coords) : Fin 2 → Nat :=
  let arg1 : BitVec 32 := BitVec.ofNat 32 (i 1).val
  let v2309 : Index := Scalar.indexCast arg1
  let c7_497 : Index := 7#32
  ![v2309.toNat, 7]
def k0_off80 (i : grid0.Coords) : Fin 2 → Nat :=
  let arg1 : BitVec 32 := BitVec.ofNat 32 (i 1).val
  let v2425 : Index := Scalar.indexCast arg1
  let c8_539 : Index := 8#32
  ![v2425.toNat, 8]
def k0_off81 (i : grid0.Coords) : Fin 2 → Nat :=
  let arg1 : BitVec 32 := BitVec.ofNat 32 (i 1).val
  let v2431 : Index := Scalar.indexCast arg1
  let c9_543 : Index := 9#32
  ![v2431.toNat, 9]
def k0_off82 (i : grid0.Coords) : Fin 2 → Nat :=
  let arg1 : BitVec 32 := BitVec.ofNat 32 (i 1).val
  let v2438 : Index := Scalar.indexCast arg1
  let c10_547 : Index := 10#32
  ![v2438.toNat, 10]
def k0_off83 (i : grid0.Coords) : Fin 2 → Nat :=
  let arg1 : BitVec 32 := BitVec.ofNat 32 (i 1).val
  let v2445 : Index := Scalar.indexCast arg1
  let c11_551 : Index := 11#32
  ![v2445.toNat, 11]
def k0_off84 (i : grid0.Coords) : Fin 2 → Nat :=
  let arg1 : BitVec 32 := BitVec.ofNat 32 (i 1).val
  let v2561 : Index := Scalar.indexCast arg1
  let c12_593 : Index := 12#32
  ![v2561.toNat, 12]
def k0_off85 (i : grid0.Coords) : Fin 2 → Nat :=
  let arg1 : BitVec 32 := BitVec.ofNat 32 (i 1).val
  let v2567 : Index := Scalar.indexCast arg1
  let c13_597 : Index := 13#32
  ![v2567.toNat, 13]
def k0_off86 (i : grid0.Coords) : Fin 2 → Nat :=
  let arg1 : BitVec 32 := BitVec.ofNat 32 (i 1).val
  let v2574 : Index := Scalar.indexCast arg1
  let c14_601 : Index := 14#32
  ![v2574.toNat, 14]
def k0_off87 (i : grid0.Coords) : Fin 2 → Nat :=
  let arg1 : BitVec 32 := BitVec.ofNat 32 (i 1).val
  let v2581 : Index := Scalar.indexCast arg1
  let c15_605 : Index := 15#32
  ![v2581.toNat, 15]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S20x66 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .smem S5x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4x1056x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x1024x20x128 : Shape := ⟨4, ![2, 1024, 20, 128]⟩
abbrev S20 : Shape := ⟨1, ![20]⟩
abbrev S20x6x11 : Shape := ⟨3, ![20, 6, 11]⟩
abbrev S5x4x4 : Shape := ⟨3, ![5, 4, 4]⟩
abbrev S2x20x1024x128 : Shape := ⟨4, ![2, 20, 1024, 128]⟩
abbrev S_ : Shape := ⟨0, ![]⟩
abbrev S2x1024x2560 : Shape := ⟨3, ![2, 1024, 2560]⟩
abbrev S1x1x1024x1024 : Shape := ⟨4, ![1, 1, 1024, 1024]⟩
abbrev S40x1024x128 : Shape := ⟨3, ![40, 1024, 128]⟩
abbrev S40x1024x1024 : Shape := ⟨3, ![40, 1024, 1024]⟩
abbrev S2x20x1024x1024 : Shape := ⟨4, ![2, 20, 1024, 1024]⟩
abbrev S1x20x1x1 : Shape := ⟨4, ![1, 20, 1, 1]⟩
abbrev S2x20x5x1024 : Shape := ⟨4, ![2, 20, 5, 1024]⟩
abbrev S2x20x1029x1024 : Shape := ⟨4, ![2, 20, 1029, 1024]⟩
abbrev S20x1x1 : Shape := ⟨3, ![20, 1, 1]⟩
abbrev S2x20x1024x1019 : Shape := ⟨4, ![2, 20, 1024, 1019]⟩
abbrev S2x20x1024x5 : Shape := ⟨4, ![2, 20, 1024, 5]⟩
abbrev S2x20x1024x1020 : Shape := ⟨4, ![2, 20, 1024, 1020]⟩
abbrev S2x20x1024x4 : Shape := ⟨4, ![2, 20, 1024, 4]⟩
abbrev S2x20x1024x1021 : Shape := ⟨4, ![2, 20, 1024, 1021]⟩
abbrev S2x20x1024x3 : Shape := ⟨4, ![2, 20, 1024, 3]⟩
abbrev S2x20x1024x1022 : Shape := ⟨4, ![2, 20, 1024, 1022]⟩
abbrev S2x20x1024x2 : Shape := ⟨4, ![2, 20, 1024, 2]⟩
abbrev S2x20x1024x1023 : Shape := ⟨4, ![2, 20, 1024, 1023]⟩
abbrev S2x20x1024x1 : Shape := ⟨4, ![2, 20, 1024, 1]⟩
abbrev S2x5x4x1024x1024 : Shape := ⟨5, ![2, 5, 4, 1024, 1024]⟩
abbrev S5x4x1 : Shape := ⟨3, ![5, 4, 1]⟩
abbrev S5x4 : Shape := ⟨2, ![5, 4]⟩
abbrev S1x5x4x1x1 : Shape := ⟨5, ![1, 5, 4, 1, 1]⟩
abbrev S2x5x1x1024x1024 : Shape := ⟨5, ![2, 5, 1, 1024, 1024]⟩
abbrev S2x5x1024x1024 : Shape := ⟨4, ![2, 5, 1024, 1024]⟩
abbrev S2x20x1024 : Shape := ⟨3, ![2, 20, 1024]⟩

abbrev nBuf : Space → Nat
  | .hbm => 16
  | .vmem => 8
  | .smem => 0
  | _ => 0

abbrev bufTy : (tb : Table) → Fin (tcTables nBuf tb) → BufTy
  | .hbm, ⟨0, _⟩ => ⟨S2x1024x20x128, .fp8e4m3⟩
  | .hbm, ⟨1, _⟩ => ⟨S20, .f32⟩
  | .hbm, ⟨2, _⟩ => ⟨S2x1024x20x128, .fp8e4m3⟩
  | .hbm, ⟨3, _⟩ => ⟨S20, .f32⟩
  | .hbm, ⟨4, _⟩ => ⟨S2x1024x20x128, .fp8e4m3⟩
  | .hbm, ⟨5, _⟩ => ⟨S20, .f32⟩
  | .hbm, ⟨6, _⟩ => ⟨S20x6x11, .f32⟩
  | .hbm, ⟨7, _⟩ => ⟨S5x4x4, .f32⟩
  | .hbm, ⟨8, _⟩ => ⟨S2x20x1024x128, .fp8e4m3⟩
  | .hbm, ⟨9, _⟩ => ⟨S2x20x1024x128, .fp8e4m3⟩
  | .hbm, ⟨10, _⟩ => ⟨S2x20x1024x128, .fp8e4m3⟩
  | .hbm, ⟨11, _⟩ => ⟨S20, .f32⟩
  | .hbm, ⟨12, _⟩ => ⟨S_, .f32⟩
  | .hbm, ⟨13, _⟩ => ⟨S20, .f32⟩
  | .hbm, ⟨14, _⟩ => ⟨S20, .f32⟩
  | .hbm, ⟨15, _⟩ => ⟨S2x1024x2560, .bf16⟩
  | .local _ .vmem, ⟨0, _⟩ => ⟨S2x20x1024x128, .fp8e4m3⟩
  | .local _ .vmem, ⟨1, _⟩ => ⟨S2x20x1024x128, .fp8e4m3⟩
  | .local _ .vmem, ⟨2, _⟩ => ⟨S2x20x1024x128, .fp8e4m3⟩
  | .local _ .vmem, ⟨3, _⟩ => ⟨S20, .f32⟩
  | .local _ .vmem, ⟨4, _⟩ => ⟨S20, .f32⟩
  | .local _ .vmem, ⟨5, _⟩ => ⟨S20x6x11, .f32⟩
  | .local _ .vmem, ⟨6, _⟩ => ⟨S5x4x4, .f32⟩
  | .local _ .vmem, ⟨7, _⟩ => ⟨S2x1024x2560, .bf16⟩
  | _, _ => ⟨S2x1024x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x20x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x20x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x20x1024x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x6x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelBlock.lean ====
module

public import proofs.«01_k».proof.Proof.Gen.KernelIdeal.Value
public import Idealize.ShloMosaic.Lib.Pipeline.ValueKit
public import Idealize.ShloMosaic.Lib.Pointwise

/-! What one grid point of the kernel computes, in named steps: the masked logits of a head, their convolution over
query rows and key columns, the mixture of four heads, the softmax, the quantiser, the product with the values. Each
step is the kernel's own vector operations, with the head as a parameter where the kernel has unrolled its loop. -/

@[expose] public section

set_option maxRecDepth 16384

noncomputable section

namespace Cert.KernelIdeal.Block

open Cert.KernelIdeal Cert.KernelIdeal.Gen Idealize.ShloMosaic Idealize.ShloMosaic.TcCoe Idealize.SL.Sem

/-! ## The scalars of a grid point -/

/-- The head the kernel works on: four per group, the group being grid coordinate 1. -/
def headIx (i : grid0.Coords) (h : Fin 4) : ℕ :=
  (Scalar.indexCast (Scalar.addi (Scalar.muli (BitVec.ofNat 32 (i 1).val) 4#32) (BitVec.ofNat 32 h.val)) : BitVec 32).toNat

/-- The head's number. -/
theorem headIx_eq (i : grid0.Coords) (h : Fin 4) : headIx i h = 4 * (i 1).val + h.val := by
  have : ∀ (g : Fin 5) (h : Fin 4), (Scalar.indexCast (Scalar.addi (Scalar.muli (BitVec.ofNat 32 g.val) 4#32)
      (BitVec.ofNat 32 h.val)) : BitVec 32).toNat = 4 * g.val + h.val := by decide +kernel
  exact this (i 1) h

/-- The group the kernel works on. -/
def groupIx (i : grid0.Coords) : ℕ := (Scalar.indexCast (BitVec.ofNat 32 (i 1).val) : BitVec 32).toNat

/-- The index read for the group is grid coordinate 1. -/
theorem groupIx_eq (i : grid0.Coords) : groupIx i = (i 1).val := by
  have : ∀ g : Fin 5, (Scalar.indexCast (BitVec.ofNat 32 g.val) : BitVec 32).toNat = g.val := by decide +kernel
  exact this (i 1)

/-- The first row of the query block: 128 rows per block, the block being grid coordinate 2. -/
def rowIx (i : grid0.Coords) : ℕ :=
  (Scalar.indexCast (Scalar.muli (BitVec.ofNat 32 (i 2).val) 128#32) : BitVec 32).toNat

/-- The index read for the first row is 128 times grid coordinate 2. -/
theorem rowIx_eq (i : grid0.Coords) : rowIx i = 128 * (i 2).val := by
  have : ∀ g : Fin 8, (Scalar.indexCast (Scalar.muli (BitVec.ofNat 32 g.val) 128#32) : BitVec 32).toNat = 128 * g.val := by
    decide +kernel
  exact this (i 2)

/-- There are five groups. -/
theorem i1_lt (i : grid0.Coords) : (i 1).val < 5 := (i 1).isLt

/-- There are eight row blocks. -/
theorem i2_lt (i : grid0.Coords) : (i 2).val < 8 := (i 2).isLt

/-- The head's entry in a table of twenty numbers. -/
def perHead (X : Vec Ideal S20 .f32) (i : grid0.Coords) (h : Fin 4) : EReal :=
  View.ld (Val := Elt Ideal) (S := S20) (e' := .f32) X (Rect.unit ![headIx i h] ![1] (by
    have := headIx_eq i h; have := i1_lt i; have := h.isLt
    intro a; match a with | ⟨0, _⟩ => show headIx i h + 1 ≤ 20; omega)) (Shape.Idx.first (show 0 < (⟨1, ![1]⟩ : Shape).numel by decide))

/-- The head's convolution weight for row offset `a` and column tap `c`. -/
def theta (X : Vec Ideal S20x66 .f32) (i : grid0.Coords) (h : Fin 4) (a : Fin 6) (c : Fin 11) : EReal :=
  View.ld (Val := Elt Ideal) (S := S20x66) (e' := .f32) X (Rect.unit ![headIx i h, a.val * 11 + c.val] ![1, 1] (by
    have := headIx_eq i h; have := i1_lt i; have := h.isLt; have := a.isLt; have := c.isLt
    intro b; match b with
    | ⟨0, _⟩ => show headIx i h + 1 ≤ 20; omega
    | ⟨1, _⟩ => show a.val * 11 + c.val + 1 ≤ 66; omega)) (Shape.Idx.first (show 0 < (⟨2, ![1, 1]⟩ : Shape).numel by decide))

/-- The group's mixing weight of head `k` into head `o`. -/
def mixW (X : Vec Ideal S5x16 .f32) (i : grid0.Coords) (o k : Fin 4) : EReal :=
  View.ld (Val := Elt Ideal) (S := S5x16) (e' := .f32) X (Rect.unit ![groupIx i, o.val * 4 + k.val] ![1, 1] (by
    have := groupIx_eq i; have := i1_lt i; have := o.isLt; have := k.isLt
    intro b; match b with
    | ⟨0, _⟩ => show groupIx i + 1 ≤ 5; omega
    | ⟨1, _⟩ => show o.val * 4 + k.val + 1 ≤ 16; omega)) (Shape.Idx.first (show 0 < (⟨2, ![1, 1]⟩ : Shape).numel by decide))

/-- The 160 query rows of head `h` the block reads. -/
def qRows (X : Vec Ideal S1x4x1056x128 .fp8e4m3) (i : grid0.Coords) (h : Fin 4) : Vec Ideal S1x1x160x128 .fp8e4m3 :=
  View.ld (Val := Elt Ideal) (S := S1x4x1056x128) (e' := .fp8e4m3) X (Rect.unit ![0, h.val, rowIx i, 0] ![1, 1, 160, 128] (by
    have := rowIx_eq i; have := i2_lt i; have := h.isLt
    intro a; match a with
    | ⟨0, _⟩ => show 0 + 1 ≤ 1; omega
    | ⟨1, _⟩ => show h.val + 1 ≤ 4; omega
    | ⟨2, _⟩ => show rowIx i + 160 ≤ 1056; omega
    | ⟨3, _⟩ => show 0 + 128 ≤ 128; omega))

/-- The keys, or the values, of head `h`. -/
def kvRows (X : Vec Ideal S1x4x1024x128 .fp8e4m3) (h : Fin 4) : Vec Ideal S1x1x1024x128 .fp8e4m3 :=
  View.ld (Val := Elt Ideal) (S := S1x4x1024x128) (e' := .fp8e4m3) X (Rect.unit ![0, h.val, 0, 0] ![1, 1, 1024, 128] (by
    have := h.isLt
    intro a; match a with
    | ⟨0, _⟩ => show 0 + 1 ≤ 1; omega
    | ⟨1, _⟩ => show h.val + 1 ≤ 4; omega
    | ⟨2, _⟩ => show 0 + 1024 ≤ 1024; omega
    | ⟨3, _⟩ => show 0 + 128 ≤ 128; omega))

/-! ## The vector steps -/

/-- The column numbers. -/
def colv : IVec S1x1024 32 := iota .tc S1x1024 32 [1] iota_S1x1024_d1_w32

/-- The masked logits of 160 query rows against all keys. -/
def logits (rows : IVec S160x1 32) (q : Vec Ideal S1x1x160x128 .fp8e4m3) (k : Vec Ideal S1x1x1024x128 .fp8e4m3) (s : EReal) :
    FVec Ideal S160x1024 .f32 :=
  select (cmpi .sle (broadcastTo S160x1024 colv broadcasts_S1x1024_S160x1024) (broadcastTo S160x1024 rows broadcasts_S160x1_S160x1024))
    (mulf (matmul (φ₁ := .fp8e4m3) (φ₂ := .fp8e4m3) dot_S160x128_S1024x128_S160x1024_1_1_0_0_n_n none (shapeCast S160x128 q shapeCasts_S1x1x160x128_S160x128)
      (shapeCast S1024x128 k shapeCasts_S1x1x1024x128_S1024x128) (constant S160x1024 .f32 0x00000000#32))
      (broadcast (α := Ideal .f32) S160x1024 s))
    (broadcast S160x1024 (Scalar.ofBits .f32 0x00000000#32))

/-- Six rows back, weighted and summed. -/
def taps (x : FVec Ideal S160x1024 .f32) (t : Fin 6 → EReal) : FVec Ideal S128x1024 .f32 :=
  (addf (addf (addf (addf (addf (mulf (broadcast (α := Ideal .f32) S128x1024 (t 0)) (extractStridedSlice S128x1024 ![32, 0] x slices_S160x1024_o32_0_S128x1024))
    (mulf (broadcast (α := Ideal .f32) S128x1024 (t 1)) (extractStridedSlice S128x1024 ![31, 0] x slices_S160x1024_o31_0_S128x1024)))
    (mulf (broadcast (α := Ideal .f32) S128x1024 (t 2)) (extractStridedSlice S128x1024 ![30, 0] x slices_S160x1024_o30_0_S128x1024)))
    (mulf (broadcast (α := Ideal .f32) S128x1024 (t 3)) (extractStridedSlice S128x1024 ![29, 0] x slices_S160x1024_o29_0_S128x1024)))
    (mulf (broadcast (α := Ideal .f32) S128x1024 (t 4)) (extractStridedSlice S128x1024 ![28, 0] x slices_S160x1024_o28_0_S128x1024)))
    (mulf (broadcast (α := Ideal .f32) S128x1024 (t 5)) (extractStridedSlice S128x1024 ![27, 0] x slices_S160x1024_o27_0_S128x1024)))

/-- A shift of the columns: rotate, then zero what came round. -/
def shift (n s : BitVec 32) (x : FVec Ideal S128x1024 .f32) : FVec Ideal S128x1024 .f32 :=
  select (broadcastTo S128x1024 (shapeCast S1x1024
      (andi (cmpi .sge (subi colv (broadcast S1x1024 s)) (broadcast S1x1024 0#32))
        (cmpi .slt (subi colv (broadcast S1x1024 s)) (broadcast S1x1024 1024#32))) shapeCasts_S1x1024_S1x1024)
      broadcasts_S1x1024_S128x1024)
    (dynamicRotate 1 n none x rotates_S128x1024_d1) (broadcast S128x1024 (Scalar.ofBits .f32 0x00000000#32))

/-- The convolution: eleven column taps, from the leftmost to the rightmost. -/
def conv (x : FVec Ideal S160x1024 .f32) (t : Fin 6 → Fin 11 → EReal) : FVec Ideal S128x1024 .f32 :=
  (addf (addf (addf (addf (addf (addf (addf (addf (addf (addf (shift 1019#32 4294967291#32 (taps x fun a => t a 0))
    (shift 1020#32 4294967292#32 (taps x fun a => t a 1)))
    (shift 1021#32 4294967293#32 (taps x fun a => t a 2)))
    (shift 1022#32 4294967294#32 (taps x fun a => t a 3)))
    (shift 1023#32 4294967295#32 (taps x fun a => t a 4)))
    (taps x fun a => t a 5))
    (shift 1#32 1#32 (taps x fun a => t a 6)))
    (shift 2#32 2#32 (taps x fun a => t a 7)))
    (shift 3#32 3#32 (taps x fun a => t a 8)))
    (shift 4#32 4#32 (taps x fun a => t a 9)))
    (shift 5#32 5#32 (taps x fun a => t a 10)))

/-- The convolved logits of head `h`, as the kernel keeps them. -/
def convHead (X0 : Vec Ideal S20 .f32) (X2 : Vec Ideal S20x66 .f32) (X4 : Vec Ideal S1x4x1056x128 .fp8e4m3)
    (X5 : Vec Ideal S1x4x1024x128 .fp8e4m3) (i : grid0.Coords) (h : Fin 4) : Vec Ideal S1x128x1024 .f32 :=
  shapeCast S1x128x1024 (conv (logits (k0_pay2 i) (qRows X4 i h) (kvRows X5 h) (perHead X0 i h)) (theta X2 i h))
    shapeCasts_S128x1024_S1x128x1024

/-- One term of the mixture of heads. -/
def mixTerm (w : EReal) (x : Vec Ideal S1x128x1024 .f32) : FVec Ideal S128x1024 .f32 :=
  mulf (broadcast (α := Ideal .f32) S128x1024 w) (shapeCast S128x1024 x shapeCasts_S1x128x1024_S128x1024)

/-- The mixture of four heads. -/
def mix (w : Fin 4 → EReal) (x : Fin 4 → Vec Ideal S1x128x1024 .f32) : FVec Ideal S128x1024 .f32 :=
  addf (addf (addf (mixTerm (w 0) (x 0)) (mixTerm (w 1) (x 1))) (mixTerm (w 2) (x 2))) (mixTerm (w 3) (x 3))

/-- The causal mask of the mixed logits. -/
def masked (rows : IVec S128x1 32) (x : FVec Ideal S128x1024 .f32) : FVec Ideal S128x1024 .f32 :=
  select (cmpi .sle (broadcastTo S128x1024 colv broadcasts_S1x1024_S128x1024) (broadcastTo S128x1024 rows broadcasts_S128x1_S128x1024))
    x (broadcast S128x1024 (Scalar.ofBits .f32 0xFF800000#32))

/-- The exponentials of a row less its maximum. -/
def expv (x : FVec Ideal S128x1024 .f32) : FVec Ideal S128x1024 .f32 :=
  exp (subf x (broadcastTo S128x1024 (shapeCast S128x1
    (multiReduction .maximumf [1] S128 x 0xFF800000#32 reduces_S128x1024_S128 (.inl rfl) rfl) shapeCasts_S128_S128x1)
    broadcasts_S128x1_S128x1024))

/-- The softmax. -/
def softmax (x : FVec Ideal S128x1024 .f32) : FVec Ideal S128x1024 .f32 :=
  divf (expv x) (broadcastTo S128x1024 (shapeCast S128x1
    (multiReduction .add [1] S128 (expv x) 0x00000000#32 reduces_S128x1024_S128 (.inl rfl) rfl) shapeCasts_S128_S128x1)
    broadcasts_S128x1_S128x1024)

/-- The greatest probability of a row, over 448. -/
def rowMax (p : FVec Ideal S128x1024 .f32) : FVec Ideal S128x1 .f32 :=
  mulf (shapeCast S128x1 (multiReduction .maximumf [1] S128 p 0xFF800000#32 reduces_S128x1024_S128 (.inl rfl) rfl)
    shapeCasts_S128_S128x1) (broadcast S128x1 (Scalar.ofBits .f32 0x3B124925#32))

/-- One comparison of the exponent search. -/
def stepv (y : FVec Ideal S128x1 .f32) (k : BitVec 32) (e : IVec S128x1 32) : IVec S128x1 32 :=
  select (cmpf .oge y (bitcastToFloat .f32 (shli (addi e (broadcast S128x1 k)) (broadcast S128x1 23#32))))
    (addi e (broadcast S128x1 k)) e

/-- The exponent field of each row's number. -/
def fieldv (y : FVec Ideal S128x1 .f32) : IVec S128x1 32 :=
  stepv y 1#32 (stepv y 2#32 (stepv y 4#32 (stepv y 8#32 (stepv y 16#32 (stepv y 32#32 (stepv y 64#32 (stepv y 128#32
    (broadcast S128x1 0#32))))))))

/-- The scale of each row. -/
def scalev (y : FVec Ideal S128x1 .f32) : FVec Ideal S128x1 .f32 :=
  bitcastToFloat .f32 (shli (addi (subi (fieldv y) (broadcast S128x1 126#32)) (broadcast S128x1 127#32)) (broadcast S128x1 23#32))

/-- The inverse scale of each row. -/
def invv (y : FVec Ideal S128x1 .f32) : FVec Ideal S128x1 .f32 :=
  bitcastToFloat .f32 (shli (subi (broadcast S128x1 127#32) (subi (fieldv y) (broadcast S128x1 126#32))) (broadcast S128x1 23#32))

/-- The codes of the probabilities. -/
def codes (p : FVec Ideal S128x1024 .f32) (y : FVec Ideal S128x1 .f32) : FVec Ideal S128x1024 .fp8e4m3 :=
  truncf .fp8e4m3 (minimumf (broadcast S128x1024 (Scalar.ofBits .f32 0x43E00000#32))
    (maximumf (broadcast S128x1024 (Scalar.ofBits .f32 0xC3E00000#32))
      (mulf p (broadcastTo S128x1024 (invv y) broadcasts_S128x1_S128x1024)))) bitsLt_fp8e4m3_f32

/-- The block's output for one head. -/
def outv (p : FVec Ideal S128x1024 .f32) (v : Vec Ideal S1x1x1024x128 .fp8e4m3) (s : EReal) : Vec Ideal S1x128x128 .bf16 :=
  shapeCast S1x128x128 (truncf .bf16 (mulf (mulf (matmul (φ₁ := .fp8e4m3) (φ₂ := .fp8e4m3) dot_S128x1024_S1024x128_S128x128_1_0_0_1_n_n none
      (codes p (rowMax p)) (shapeCast S1024x128 v shapeCasts_S1x1x1024x128_S1024x128) (constant S128x128 .f32 0x00000000#32))
    (broadcastTo S128x128 (scalev (rowMax p)) broadcasts_S128x1_S128x128)) (broadcast (α := Ideal .f32) S128x128 s)) bitsLt_bf16_f32)
    shapeCasts_S128x128_S1x128x128

/-- The block's probabilities for head `o`. -/
def probs (X0 : Vec Ideal S20 .f32) (X2 : Vec Ideal S20x66 .f32) (X3 : Vec Ideal S5x16 .f32)
    (X4 : Vec Ideal S1x4x1056x128 .fp8e4m3) (X5 : Vec Ideal S1x4x1024x128 .fp8e4m3) (i : grid0.Coords) (o : Fin 4) :
    FVec Ideal S128x1024 .f32 :=
  softmax (masked (k0_pay3 i) (mix (mixW X3 i o) (convHead X0 X2 X4 X5 i)))

/-- What the point stores for head `o`. -/
def outHead (X0 X1 : Vec Ideal S20 .f32) (X2 : Vec Ideal S20x66 .f32) (X3 : Vec Ideal S5x16 .f32)
    (X4 : Vec Ideal S1x4x1056x128 .fp8e4m3) (X5 X6 : Vec Ideal S1x4x1024x128 .fp8e4m3) (i : grid0.Coords) (o : Fin 4) :
    Vec Ideal S1x128x128 .bf16 :=
  outv (probs X0 X2 X3 X4 X5 i o) (kvRows X6 o) (perHead X1 i o)

end Cert.KernelIdeal.Block
-- ==== Proof.KernelPoint.lean ====
module

public import proofs.«01_k».proof.Proof.KernelBlock
public import Idealize.ShloMosaic.Lib.Pipeline.ReadBack

/-! What the kernel leaves in its output window at a grid point: four heads side by side, each the named steps of
`KernelBlock` on the blocks the point reads. -/

@[expose] public section
set_option maxRecDepth 16384

noncomputable section

namespace Cert.KernelIdeal.Value
open Cert.KernelIdeal Cert.KernelIdeal.Gen Cert.KernelIdeal.Block Idealize.ShloMosaic Idealize.ShloMosaic.TcCoe Idealize.SL.Sem
open Idealize.ShloMosaic.Pipeline (Dat)
variable (m : (ℓ : Loc nD τ sig) → Buf (Elt Ideal) ℓ)

/-- The four heads of a point, side by side. -/
def outBlk (X0 X1 : Vec Ideal S20 .f32) (X2 : Vec Ideal S20x66 .f32) (X3 : Vec Ideal S5x16 .f32)
    (X4 : Vec Ideal S1x4x1056x128 .fp8e4m3) (X5 X6 : Vec Ideal S1x4x1024x128 .fp8e4m3) (i : grid0.Coords) :
    Vec Ideal S1x128x512 .bf16 :=
  fun y => outHead X0 X1 X2 X3 X4 X5 X6 i ⟨(y 2).val / 128, by have : (y 2).val < 512 := (y 2).isLt; omega⟩
    (ix3 0 (y 1) ⟨(y 2).val % 128, Nat.mod_lt _ (by omega)⟩)

/-- Column `128 * o + l` of a point's block is column `l` of its head `o`. -/
theorem outBlk_at (X0 X1 : Vec Ideal S20 .f32) (X2 : Vec Ideal S20x66 .f32) (X3 : Vec Ideal S5x16 .f32)
    (X4 : Vec Ideal S1x4x1056x128 .fp8e4m3) (X5 X6 : Vec Ideal S1x4x1024x128 .fp8e4m3) (i : grid0.Coords) (o : Fin 4)
    (y : S1x128x512.Idx) (x : S1x128x128.Idx) (h1 : (y 1).val = (x 1).val) (h2 : (y 2).val = 128 * o.val + (x 2).val) :
    outBlk X0 X1 X2 X3 X4 X5 X6 i y = outHead X0 X1 X2 X3 X4 X5 X6 i o x := by
  have hx : (x 2).val < 128 := (x 2).isLt
  have h0 : (x 0).val < 1 := (x 0).isLt
  unfold outBlk
  congr 1
  · exact Fin.ext (by show (y 2).val / 128 = o.val; omega)
  · funext a
    match a with
    | ⟨0, _⟩ => exact Fin.ext (by show 0 = (x 0).val; omega)
    | ⟨1, _⟩ => exact Fin.ext h1
    | ⟨2, _⟩ => exact Fin.ext (by show (y 2).val % 128 = (x 2).val; omega)

set_option maxHeartbeats 8000000 in
/-- The point's block is the four heads. -/
theorem outsAt0_eq (c : Dev nD) (t : Fin cfg0.N) (y : S1x128x512.Idx) : outsAt0 m c t y =
   outBlk (iblk m c 0 t) (iblk m c 1 t) (iblk m c 2 t) (iblk m c 3 t) (iblk m c 4 t) (iblk m c 5 t) (iblk m c 6 t) (grid0.coords t) y := by
  unfold outsAt0
  frame_out
  simp (disch := decide) only [↓View.readCov_skip, ↓View.readCov_cons_toLoadRect]
  canon_tiles y h
  case piece0 =>
    rw [outBlk_at _ _ _ _ _ _ _ _ 3 _ y h1 h2]
    rfl
  case piece1 =>
    rw [outBlk_at _ _ _ _ _ _ _ _ 2 _ y h1 h2]
    rfl
  case piece2 =>
    rw [outBlk_at _ _ _ _ _ _ _ _ 1 _ y h1 h2]
    rfl
  case piece3 =>
    rw [outBlk_at _ _ _ _ _ _ _ _ 0 _ y h1 (by omega)]
    rfl

end Cert.KernelIdeal.Value
-- ==== Proof.Exponent.lean ====
module

public import Idealize.ShloMosaic.Lib.Pointwise

/-! The power-of-two scale of one row. The kernel finds the exponent of a number by eight comparisons with powers
of two, from the largest step to the smallest; the reference takes the floor of its binary logarithm. This file
shows that the two give the same scale and the same inverse scale for every number below one. -/

@[expose] public section

noncomputable section

namespace Cert.Exponent

open Idealize.ShloMosaic

/-- The power of two whose binary exponent field is `e`. -/
def pw (e : ℕ) : EReal := (((2 : ℝ) ^ ((e : ℤ) - 127) : ℝ) : EReal)

/-- The bits of a nonnegative float with exponent field `e` and no fraction. -/
def word (e : ℕ) : BitVec 32 := BitVec.ofNat 32 e <<< 23

/-- The three fields of `word e`. -/
theorem word_fields : ∀ e : Fin 256, ((word e).extractLsb' 31 1 = 0#1) ∧ ((word e).extractLsb' 23 8).toNat = e.val ∧
    ((word e).extractLsb' 0 23).toNat = 0 := by
  decide +kernel

/-- A word with a normal exponent field is that power of two. -/
theorem ofBits_word (e : ℕ) (h1 : 1 ≤ e) (h2 : e ≤ 254) : Ideal.ofBits .f32 (word e) = pw e := by
  obtain ⟨ha, hb, hc⟩ := word_fields ⟨e, by omega⟩
  simp only at ha hb hc
  have h3 : ¬ e = 255 := by omega
  have h4 : ¬ e = 0 := by omega
  simp only [Ideal.ofBits, Ideal.ieee, pw]
  simp only [show 8 + 23 = 31 from rfl, ha, hb, hc]
  norm_num [h3, h4]
  have : (2 : ℝ) ^ ((e : ℤ) - 127) = 8388608 * (2 : ℝ) ^ ((e : ℤ) - 127 - 23) := by
    rw [zpow_sub₀ (by norm_num) _ 23]; norm_num
    ring
  rw [this, EReal.coe_mul]

/-- The word with the largest exponent field is infinity. -/
theorem ofBits_word_top : Ideal.ofBits .f32 (word 255) = ⊤ := by
  obtain ⟨ha, hb, hc⟩ := word_fields ⟨255, by omega⟩
  simp only at ha hb hc
  simp only [Ideal.ofBits, Ideal.ieee]
  simp only [show 8 + 23 = 31 from rfl, ha, hb, hc]
  norm_num

/-- A larger exponent field is a larger power of two. -/
theorem pw_mono {a b : ℕ} (h : a ≤ b) : pw a ≤ pw b := by
  exact EReal.coe_le_coe_iff.2 (zpow_le_zpow_right₀ (by norm_num : (1 : ℝ) ≤ 2) (by omega))

/-- Every power of two is positive. -/
theorem pw_pos (a : ℕ) : 0 < pw a := by
  unfold pw
  exact_mod_cast (by positivity : (0 : ℝ) < (2 : ℝ) ^ ((a : ℤ) - 127))

/-- The field 127 is the number one. -/
theorem pw_127 : pw 127 = 1 := by
  unfold pw; norm_num

/-- One comparison of the search: take the step `k` when the power of two it leads to is not above `y`. -/
def step (y : EReal) (k e : ℕ) : ℕ := if Ideal.ofBits .f32 (word (e + k)) ≤ y then e + k else e

/-- The exponent field found by the eight comparisons. -/
def field (y : EReal) : ℕ :=
  step y 1 (step y 2 (step y 4 (step y 8 (step y 16 (step y 32 (step y 64 (step y 128 0)))))))

/-- What the search knows before a step: `e` is reached, the next `k` fields bound `y`. -/
def Inv (y : EReal) (k e : ℕ) : Prop := (e = 0 ∨ pw e ≤ y) ∧ y < pw (e + k) ∧ e + k ≤ 256

/-- One comparison halves the range of fields still possible and keeps what the search knows. -/
theorem inv_step {y : EReal} (hy : y < 1) {k e : ℕ} (hk : 1 ≤ k) (h : Inv y (2 * k) e) : Inv y k (step y k e) := by
  obtain ⟨h0, h1, h2⟩ := h
  have hcmp : Ideal.ofBits .f32 (word (e + k)) ≤ y ↔ pw (e + k) ≤ y := by
    rcases Nat.lt_or_ge (e + k) 255 with h | h
    · rw [ofBits_word _ (by omega) (by omega)]
    · have : e + k = 255 := by omega
      rw [this, ofBits_word_top]
      constructor
      · intro h'; exact absurd (lt_of_lt_of_le hy (le_trans le_top h')) (lt_irrefl _)
      · intro h'
        exact absurd (lt_of_lt_of_le hy (le_trans (pw_127 ▸ pw_mono (by omega)) h')) (lt_irrefl _)
  unfold step
  split_ifs with hc
  · exact ⟨Or.inr (hcmp.1 hc), by rwa [show e + k + k = e + 2 * k by ring], by omega⟩
  · exact ⟨h0, not_le.1 fun h => hc (hcmp.2 h), by omega⟩

/-- The search ends at the largest power of two not above `y`, or at zero. -/
theorem field_spec {y : EReal} (hy : y < 1) : Inv y 1 (field y) := by
  have h0 : Inv y (2 * 128) 0 := ⟨Or.inl rfl, lt_of_lt_of_le hy (pw_127 ▸ pw_mono (by omega)), by omega⟩
  unfold field
  exact inv_step hy le_rfl (inv_step hy (by omega) (inv_step hy (by omega) (inv_step hy (by omega)
    (inv_step hy (by omega) (inv_step hy (by omega) (inv_step hy (by omega) (inv_step hy (by omega) h0)))))))

/-- Below one, the field found is at most 126. -/
theorem field_le {y : EReal} (hy : y < 1) : field y ≤ 126 := by
  obtain ⟨h0 | h0, -, -⟩ := field_spec hy
  · omega
  · by_contra h
    exact absurd (lt_of_lt_of_le hy (le_trans (pw_127 ▸ pw_mono (by omega)) h0)) (lt_irrefl _)

/-- The exponent the reference takes of `y`: the floor of the binary logarithm, plus one. -/
def expo (y : EReal) : EReal :=
  Ideal.liftRound Int.floor (Ideal.div (Ideal.log (max y (pw 0))) (Ideal.log 2)) + 1

/-- The floor of the binary logarithm of a number between two neighbouring powers of two. -/
theorem floor_log {z : EReal} {n : ℤ} (h1 : (((2 : ℝ) ^ n : ℝ) : EReal) ≤ z) (h2 : z < (((2 : ℝ) ^ (n + 1) : ℝ) : EReal)) :
    Ideal.liftRound Int.floor (Ideal.div (Ideal.log z) (Ideal.log 2)) = ((n : ℝ) : EReal) := by
  induction z with
  | bot => exact absurd h1 (by simp)
  | top => exact absurd h2 (by simp)
  | coe r =>
    have h1 : (2 : ℝ) ^ n ≤ r := by exact_mod_cast h1
    have h2 : r < (2 : ℝ) ^ (n + 1) := by exact_mod_cast h2
    have hr : 0 < r := lt_of_lt_of_le (by positivity) h1
    have hl : 0 < Real.log 2 := Real.log_pos (by norm_num)
    have e2 : (2 : EReal) = ((2 : ℝ) : EReal) := rfl
    rw [e2, Ideal.log_coe, Ideal.log_coe, if_neg (by linarith), if_neg (by norm_num)]
    rw [show Ideal.div (Real.log r : EReal) (Real.log 2 : EReal) = ((Real.log r / Real.log 2 : ℝ) : EReal) by
      unfold Ideal.div
      rw [if_neg (by exact_mod_cast hl.ne'), div_eq_mul_inv, EReal.coe_mul, EReal.coe_inv]]
    have hf : ⌊Real.log r / Real.log 2⌋ = n := by
      rw [Int.floor_eq_iff]
      constructor
      · rw [le_div_iff₀ hl, ← Real.log_zpow]; exact Real.log_le_log (by positivity) h1
      · rw [div_lt_iff₀ hl]
        have := Real.log_lt_log hr h2
        rw [Real.log_zpow] at this
        push_cast at this; exact this
    rw [← hf]
    rfl

/-- The reference's exponent is the kernel's exponent field less 126. -/
theorem expo_eq {y : EReal} (hy : y < 1) : expo y = (((field y : ℤ) - 126 : ℤ) : ℝ) := by
  obtain ⟨h0, h1, -⟩ := field_spec hy
  have key : Ideal.liftRound Int.floor (Ideal.div (Ideal.log (max y (pw 0))) (Ideal.log 2))
      = ((((field y : ℤ) - 127 : ℤ) : ℝ) : EReal) := by
    apply floor_log
    · rcases h0 with h0 | h0
      · rw [h0]; exact le_max_right _ _
      · exact le_trans h0 (le_max_left _ _)
    · rw [show (field y : ℤ) - 127 + 1 = ((field y + 1 : ℕ) : ℤ) - 127 by push_cast; ring]
      refine max_lt h1 ?_
      exact EReal.coe_lt_coe_iff.2 (zpow_lt_zpow_right₀ (by norm_num : (1 : ℝ) < 2) (by omega))
  unfold expo
  rw [key, ← EReal.coe_one, ← EReal.coe_add]
  congr 1
  push_cast; ring

/-- The scale the kernel builds from the field is two to the reference's exponent. -/
theorem scale_eq {y : EReal} (hy : y < 1) : Ideal.ofBits .f32 (word (field y + 1)) = Ideal.exp2 (expo y) := by
  have h := field_le hy
  rw [ofBits_word _ (by omega) (by omega), expo_eq hy, Ideal.exp2_coe]
  unfold pw
  congr 1
  rw [Real.rpow_eq_pow, Real.rpow_intCast]
  congr 1
  push_cast; ring

/-- The inverse scale the kernel builds from the field is two to the opposite of the reference's exponent. -/
theorem inv_eq {y : EReal} (hy : y < 1) : Ideal.ofBits .f32 (word (253 - field y)) = Ideal.exp2 (0 - expo y) := by
  have h := field_le hy
  rw [ofBits_word _ (by omega) (by omega), expo_eq hy, zero_sub, ← EReal.coe_neg, Ideal.exp2_coe]
  unfold pw
  congr 1
  rw [Real.rpow_eq_pow, ← Int.cast_neg, Real.rpow_intCast]
  congr 1
  omega

end Cert.Exponent
-- ==== Proof.Softmax.lean ====
module

public import Idealize.ShloMosaic.Lib.Pointwise

/-! The softmax of one row: its values are never above one, so the number whose exponent the quantiser takes is
below one. Nothing is assumed of the row: its entries may be infinite. -/

@[expose] public section

noncomputable section

namespace Cert.Softmax

open Idealize.ShloMosaic

/-- The exponential is never negative. -/
theorem exp_nonneg (x : EReal) : 0 ≤ Ideal.exp x := by
  induction x with
  | bot => exact le_rfl
  | top => exact le_top
  | coe r => exact EReal.coe_nonneg.2 (Real.exp_pos r).le

/-- A nonnegative number divided by one that is not smaller is at most one. -/
theorem div_le_one {a s : EReal} (ha : 0 ≤ a) (h : a ≤ s) : Ideal.div a s ≤ 1 := by
  unfold Ideal.div
  split_ifs with h0 h1
  · rw [h0] at h
    exact absurd (lt_of_lt_of_le h1 h) (lt_irrefl _)
  · exact bot_le
  · induction s with
    | bot => exact absurd (le_trans ha h) (by simp)
    | top => simp
    | coe s =>
      induction a with
      | bot => exact absurd ha (by simp)
      | top => exact absurd h (by simp)
      | coe a =>
        have ha : 0 ≤ a := EReal.coe_nonneg.1 ha
        have h : a ≤ s := EReal.coe_le_coe_iff.1 h
        have h0 : s ≠ 0 := fun e => h0 (by rw [e]; rfl)
        rw [← EReal.coe_inv, ← EReal.coe_mul, ← EReal.coe_one, EReal.coe_le_coe_iff, ← div_eq_mul_inv]
        exact (div_le_one₀ (lt_of_le_of_ne (ha.trans h) (Ne.symm h0))).2 h

/-- The greatest of the values, as the reduction computes it, is at most a bound of them all. -/
theorem fold_max_le {n : ℕ} (p : Fin n → EReal) (b : EReal) (h : ∀ j, p j ≤ b) :
    Finset.univ.fold max ⊥ p ≤ b :=
  (Finset.fold_max_le b).2 ⟨bot_le, fun j _ => h j⟩

/-- Exponentials divided by their sum are at most one. -/
theorem exp_div_sum_le_one {n : ℕ} (x : Fin n → EReal) (j : Fin n) :
    Ideal.div (Ideal.exp (x j)) (∑ k, Ideal.exp (x k)) ≤ 1 :=
  div_le_one (exp_nonneg _) (Finset.single_le_sum (f := fun k => Ideal.exp (x k)) (fun k _ => exp_nonneg _) (Finset.mem_univ j))

/-- A number at most one times a positive number below one is below one. -/
theorem mul_lt_one {a c : EReal} (ha : a ≤ 1) (h0 : 0 ≤ c) (h1 : c < 1) : a * c < 1 :=
  lt_of_le_of_lt (mul_le_mul_of_nonneg_right ha h0) (by rwa [one_mul])

end Cert.Softmax
-- ==== Proof.Consts.lean ====
module

public import proofs.«01_k».proof.Proof.Exponent

/-! The values of the float constants in the two programs. -/

@[expose] public section

noncomputable section

namespace Cert.Consts

open Idealize.ShloMosaic

/-- Minus infinity. -/
theorem ofBits_bot : Ideal.ofBits .f32 0xFF800000#32 = ⊥ := by
  have h1 : (0xFF800000#32).extractLsb' 31 1 = 1#1 := by decide
  have h2 : ((0xFF800000#32).extractLsb' 23 8).toNat = 255 := by decide
  have h3 : ((0xFF800000#32).extractLsb' 0 23).toNat = 0 := by decide
  simp only [Ideal.ofBits, Ideal.ieee, h1, h2, h3]
  norm_num

/-- Two. -/
theorem ofBits_two : Ideal.ofBits .f32 0x40000000#32 = 2 := by
  have h1 : (0x40000000#32).extractLsb' 31 1 = 0#1 := by decide
  have h2 : ((0x40000000#32).extractLsb' 23 8).toNat = 128 := by decide
  have h3 : ((0x40000000#32).extractLsb' 0 23).toNat = 0 := by decide
  simp only [Ideal.ofBits, Ideal.ieee, h1, h2, h3]
  norm_num
  norm_cast

/-- Two to the power of -127. -/
theorem ofBits_pw : Ideal.ofBits .f32 0x00400000#32 = Exponent.pw 0 := by
  have h1 : (0x00400000#32).extractLsb' 31 1 = 0#1 := by decide
  have h2 : ((0x00400000#32).extractLsb' 23 8).toNat = 0 := by decide
  have h3 : ((0x00400000#32).extractLsb' 0 23).toNat = 4194304 := by decide
  simp only [Ideal.ofBits, Ideal.ieee, h1, h2, h3]
  norm_num [Exponent.pw]

/-- One over 448 is between zero and one. -/
theorem ofBits_inv448 : 0 ≤ Ideal.ofBits .f32 0x3B124925#32 ∧ Ideal.ofBits .f32 0x3B124925#32 < 1 := by
  have h1 : (0x3B124925#32).extractLsb' 31 1 = 0#1 := by decide
  have h2 : ((0x3B124925#32).extractLsb' 23 8).toNat = 118 := by decide
  have h3 : ((0x3B124925#32).extractLsb' 0 23).toNat = 1198373 := by decide
  simp only [Ideal.ofBits, Ideal.ieee, h1, h2, h3]
  refine ⟨?_, ?_⟩
  · norm_num
  · norm_num
    rw [← EReal.coe_one]
    exact EReal.coe_lt_coe_iff.2 (by norm_num)

end Cert.Consts
-- ==== Proof.Spec.lean ====
module

public import proofs.«01_k».proof.Proof.Exponent
public import proofs.«01_k».proof.Proof.Softmax
public import proofs.«01_k».proof.Proof.Consts

/-! What both programs compute, in plain arithmetic on extended reals: masked logits, a convolution of six query rows by
eleven key columns, a mixture of four heads, a masked softmax, its quantisation with one power-of-two scale per row, and
the product with the values. Rows and columns are natural numbers; row `r` of the logits is query row `r - 5`, the rows
before the first query being zero. -/

@[expose] public section

noncomputable section

namespace Cert.Spec

open Idealize.ShloMosaic

/-- The logit of padded row `r` and key `j`, zero above the diagonal. -/
def logit (q k : ℕ → Fin 128 → EReal) (s : EReal) (r j : ℕ) : EReal :=
  if j + 5 ≤ r then (∑ d : Fin 128, q (r - 5) d * k j d) * s else 0

/-- Six rows ending at query row `i`, weighted and summed. -/
def taps (t : Fin 6 → EReal) (f : ℕ → ℕ → EReal) (i j : ℕ) : EReal :=
  t 0 * f (i + 5) j + t 1 * f (i + 4) j + t 2 * f (i + 3) j + t 3 * f (i + 2) j + t 4 * f (i + 1) j + t 5 * f i j

/-- The row moved `n` columns to the left, zeros coming in. -/
def left (n : ℕ) (g : ℕ → EReal) (j : ℕ) : EReal := if j + n < 1024 then g (j + n) else 0

/-- The row moved `n` columns to the right, zeros coming in. -/
def right (n : ℕ) (g : ℕ → EReal) (j : ℕ) : EReal := if n ≤ j then g (j - n) else 0

/-- The convolution over six rows and eleven columns. -/
def conv (t : Fin 6 → Fin 11 → EReal) (f : ℕ → ℕ → EReal) (i j : ℕ) : EReal :=
  left 5 (taps (fun a => t a 0) f i) j + left 4 (taps (fun a => t a 1) f i) j + left 3 (taps (fun a => t a 2) f i) j
    + left 2 (taps (fun a => t a 3) f i) j + left 1 (taps (fun a => t a 4) f i) j + taps (fun a => t a 5) f i j
    + right 1 (taps (fun a => t a 6) f i) j + right 2 (taps (fun a => t a 7) f i) j + right 3 (taps (fun a => t a 8) f i) j
    + right 4 (taps (fun a => t a 9) f i) j + right 5 (taps (fun a => t a 10) f i) j

/-- The mixture of four heads, masked above the diagonal. -/
def mixed (w : Fin 4 → EReal) (x : Fin 4 → ℕ → ℕ → EReal) (i j : ℕ) : EReal :=
  if j ≤ i then w 0 * x 0 i j + w 1 * x 1 i j + w 2 * x 2 i j + w 3 * x 3 i j else ⊥

/-- A row's maximum. -/
def top (m : Fin 1024 → EReal) : EReal := Finset.univ.fold max ⊥ m

/-- The softmax of a row. -/
def prob (m : Fin 1024 → EReal) (j : Fin 1024) : EReal :=
  Ideal.div (Ideal.exp (m j - top m)) (∑ k, Ideal.exp (m k - top m))

/-- The row's greatest probability over the greatest code. -/
def amax (m : Fin 1024 → EReal) : EReal := top (prob m) * Ideal.ofBits .f32 0x3B124925#32

/-- The product of a row of quantised probabilities with a column of values, scaled back. `inv` is what the probabilities
are multiplied by, `sc` what the product is. -/
def dot (m v : Fin 1024 → EReal) (inv sc vs : EReal) : EReal :=
  (∑ j, min (Ideal.ofBits .f32 0x43E00000#32) (max (Ideal.ofBits .f32 0xC3E00000#32) (prob m j * inv)) * v j) * sc * vs

/-- One entry of the result, with the scale two to the power of the row's exponent. -/
def out (m v : Fin 1024 → EReal) (vs : EReal) : EReal :=
  dot m v (Ideal.exp2 (0 - Exponent.expo (amax m))) (Ideal.exp2 (Exponent.expo (amax m))) vs

/-- Head `h` of group `g`. -/
def hd (g : Fin 5) (h : Fin 4) : Fin 20 := ⟨4 * g.val + h.val, by have := g.isLt; have := h.isLt; omega⟩

/-- A row of the masked mixture for head `o` of group `g`, from the queries, keys, scales, convolution and mixing weights. -/
def row (sq : Fin 20 → EReal) (th : Fin 20 → Fin 6 → Fin 11 → EReal) (w : Fin 5 → Fin 4 → Fin 4 → EReal)
    (q k : Fin 20 → ℕ → Fin 128 → EReal) (g : Fin 5) (o : Fin 4) (i j : ℕ) : EReal :=
  mixed (w g o) (fun c => conv (th (hd g c)) (logit (q (hd g c)) (k (hd g c)) (sq (hd g c)))) i j

/-- One entry of head `o` of group `g`. -/
def head (sq sv : Fin 20 → EReal) (th : Fin 20 → Fin 6 → Fin 11 → EReal) (w : Fin 5 → Fin 4 → Fin 4 → EReal)
    (q k v : Fin 20 → ℕ → Fin 128 → EReal) (g : Fin 5) (o : Fin 4) (i : ℕ) (d : Fin 128) : EReal :=
  out (fun j => row sq th w q k g o i j.val) (fun j => v (hd g o) j.val d) (sv (hd g o))

/-- The result at batch `b`, row `i`, column `l`: column `l` is entry `l % 128` of head `l / 128`, head `h` being head
`h % 4` of group `h / 4`. The arguments are the two programs' own, as functions of their coordinates. -/
def result (Q : Fin 2 → Fin 1024 → Fin 20 → Fin 128 → EReal) (qs : Fin 20 → EReal)
    (K : Fin 2 → Fin 1024 → Fin 20 → Fin 128 → EReal) (ks : Fin 20 → EReal)
    (V : Fin 2 → Fin 1024 → Fin 20 → Fin 128 → EReal) (vs : Fin 20 → EReal)
    (th : Fin 20 → Fin 6 → Fin 11 → EReal) (w : Fin 5 → Fin 4 → Fin 4 → EReal)
    (b : Fin 2) (i : Fin 1024) (l : Fin 2560) : EReal :=
  head (fun h => qs h * ks h * Ideal.ofBits .f32 0x3DB504F3#32) vs th w (fun h n d => Q b (Fin.ofNat 1024 n) h d)
    (fun h n d => K b (Fin.ofNat 1024 n) h d) (fun h n d => V b (Fin.ofNat 1024 n) h d)
    ⟨l.val / 512, by have := l.isLt; omega⟩ ⟨l.val / 128 % 4, by omega⟩ i.val ⟨l.val % 128, by omega⟩

/-- A row's greatest probability, over the greatest code, is below one. -/
theorem amax_lt_one (m : Fin 1024 → EReal) : amax m < 1 := by
  exact Softmax.mul_lt_one (Softmax.fold_max_le _ _ fun j => Softmax.exp_div_sum_le_one (fun k => m k - top m) j)
    Consts.ofBits_inv448.1 Consts.ofBits_inv448.2

end Cert.Spec
-- ==== Proof.KernelRead.lean ====
module

public import proofs.«01_k».proof.Proof.KernelBlock
public import proofs.«01_k».proof.Proof.Spec

/-! The steps of `KernelBlock` read at one index, down to arithmetic on extended reals. -/

@[expose] public section

set_option maxRecDepth 16384

noncomputable section

namespace Cert.KernelIdeal.Block

open Cert.KernelIdeal Cert.KernelIdeal.Gen Idealize.ShloMosaic Idealize.ShloMosaic.TcCoe Idealize.SL.Sem

/-! ## Words that are small numbers -/

/-- A small number as a signed word is itself. -/
theorem toInt_ofNat {n : ℕ} (h : n < 2 ^ 31) : (BitVec.ofNat 32 n).toInt = n := by
  rw [BitVec.toInt_eq_toNat_bmod, BitVec.toNat_ofNat, Int.bmod_def]; omega

/-- A difference of small numbers as a signed word is their difference. -/
theorem toInt_sub {n k : ℕ} (h : n < 2 ^ 30) (hk : k < 2 ^ 30) : (BitVec.ofNat 32 n - BitVec.ofNat 32 k).toInt = (n : ℤ) - k := by
  rw [BitVec.toInt_sub, toInt_ofNat (by omega), toInt_ofNat (by omega), Int.bmod_def]; omega

/-- A sum of small numbers as a signed word is their sum. -/
theorem toInt_add {n k : ℕ} (h : n < 2 ^ 30) (hk : k < 2 ^ 30) : (BitVec.ofNat 32 n + BitVec.ofNat 32 k).toInt = (n : ℤ) + k := by
  rw [BitVec.toInt_add, toInt_ofNat (by omega), toInt_ofNat (by omega), Int.bmod_def]; omega

/-- A choice between two numbers by a comparison bit. -/
theorem select_iff {c : BitVec 1} {p : Prop} [Decidable p] (h : c = 1#1 ↔ p) (a b : EReal) :
    Scalar.select c a b = if p then a else b := by
  unfold Scalar.select
  by_cases hp : p
  · exact (if_pos (h.2 hp)).trans (if_pos hp).symm
  · exact (if_neg (fun hc => hp (h.1 hc))).trans (if_neg hp).symm

/-! ## The logits and their convolution -/

/-- A logit: the scaled product of a query row and a key row where the key is not after the query, else zero. -/
theorem logits_at (rows : IVec S160x1 32) (q : Vec Ideal S1x1x160x128 .fp8e4m3) (k : Vec Ideal S1x1x1024x128 .fp8e4m3) (s : EReal)
    (r : Fin 160) (j : Fin 1024) (n : ℕ) (hn : (rows (ix2 r 0)).toInt = (n : ℤ) - 32) :
    logits rows q k s (ix2 r j) = if j.val + 32 ≤ n then (∑ d : Fin 128, q (ix4 0 0 r d) * k (ix4 0 0 j d)) * s else 0 := by
  have hj := j.isLt
  pointwise [logits, colv]
  exact select_iff (by rw [IntOp.cmpi_sle, hn, toInt_ofNat (by omega)]; omega) _ _

/-- The weighted sum of six rows. -/
theorem taps_at (x : FVec Ideal S160x1024 .f32) (t : Fin 6 → EReal) (f : ℕ → ℕ → EReal) (i0 : ℕ)
    (hf : ∀ (r : Fin 160) (j : Fin 1024), 27 ≤ r.val → x (ix2 r j) = f (i0 + (r.val - 27)) j.val) (r : Fin 128) (j : Fin 1024) :
    taps x t (ix2 r j) = Spec.taps t f (i0 + r.val) j.val := by
  pointwise [taps, Spec.taps]
  have e : ∀ (n : ℕ) (h : 27 + n + r.val < 160), x (ix2 ⟨27 + n + r.val, h⟩ j) = f (i0 + r.val + n) j.val := fun n h => by
    rw [hf _ _ (by show 27 ≤ 27 + n + r.val; omega)]
    congr 1
    show i0 + (27 + n + r.val - 27) = _
    omega
  have hr := r.isLt
  exact congrArg₂ _ (congrArg₂ _ (congrArg₂ _ (congrArg₂ _ (congrArg₂ _ (congrArg _ (e 5 (by omega))) (congrArg _ (e 4 (by omega))))
    (congrArg _ (e 3 (by omega)))) (congrArg _ (e 2 (by omega)))) (congrArg _ (e 1 (by omega)))) (congrArg _ (e 0 (by omega)))

/-- 1 columns to the left. -/
theorem left1 (x : FVec Ideal S128x1024 .f32) (g : ℕ → EReal) (r : Fin 128) (hg : ∀ j : Fin 1024, x (ix2 r j) = g j.val)
    (j : Fin 1024) : shift 1023#32 4294967295#32 x (ix2 r j) = Spec.left 1 g j.val := by
  have hj := j.isLt
  have hs : (IntOp.subi (BitVec.ofNat 32 j.val) 4294967295#32).toInt = (j.val : ℤ) + 1 := by
    rw [show IntOp.subi (BitVec.ofNat 32 j.val) 4294967295#32 = BitVec.ofNat 32 j.val + BitVec.ofNat 32 1 from
      (BitVec.sub_eq_add_neg _ _).trans (congrArg _ (by decide)), toInt_add (by omega) (by omega)]
    rfl
  pointwise [shift, colv, Spec.left]
  refine (select_iff (p := j.val + 1 < 1024) ?_ _ _).trans ?_
  · rw [IntOp.andi_eq_one, IntOp.cmpi_sge, IntOp.cmpi_slt, hs, show (0#32).toInt = 0 from rfl, show (1024#32).toInt = 1024 from rfl]
    omega
  · by_cases h : j.val + 1 < 1024
    · rw [if_pos h, if_pos h, hg]
      congr 1
      show (j.val + 1024 - 1023) % 1024 = _
      omega
    · rw [if_neg h, if_neg h]

/-- 1 columns to the right. -/
theorem right1 (x : FVec Ideal S128x1024 .f32) (g : ℕ → EReal) (r : Fin 128) (hg : ∀ j : Fin 1024, x (ix2 r j) = g j.val)
    (j : Fin 1024) : shift 1#32 1#32 x (ix2 r j) = Spec.right 1 g j.val := by
  have hj := j.isLt
  have hs : (IntOp.subi (BitVec.ofNat 32 j.val) 1#32).toInt = (j.val : ℤ) - 1 :=
    toInt_sub (n := j.val) (k := 1) (by omega) (by omega)
  pointwise [shift, colv, Spec.right]
  refine (select_iff (p := 1 ≤ j.val) ?_ _ _).trans ?_
  · rw [IntOp.andi_eq_one, IntOp.cmpi_sge, IntOp.cmpi_slt, hs, show (0#32).toInt = 0 from rfl, show (1024#32).toInt = 1024 from rfl]
    omega
  · by_cases h : 1 ≤ j.val
    · rw [if_pos h, if_pos h, hg]
      congr 1
      show (j.val + 1024 - 1) % 1024 = _
      omega
    · rw [if_neg h, if_neg h]

/-- 2 columns to the left. -/
theorem left2 (x : FVec Ideal S128x1024 .f32) (g : ℕ → EReal) (r : Fin 128) (hg : ∀ j : Fin 1024, x (ix2 r j) = g j.val)
    (j : Fin 1024) : shift 1022#32 4294967294#32 x (ix2 r j) = Spec.left 2 g j.val := by
  have hj := j.isLt
  have hs : (IntOp.subi (BitVec.ofNat 32 j.val) 4294967294#32).toInt = (j.val : ℤ) + 2 := by
    rw [show IntOp.subi (BitVec.ofNat 32 j.val) 4294967294#32 = BitVec.ofNat 32 j.val + BitVec.ofNat 32 2 from
      (BitVec.sub_eq_add_neg _ _).trans (congrArg _ (by decide)), toInt_add (by omega) (by omega)]
    rfl
  pointwise [shift, colv, Spec.left]
  refine (select_iff (p := j.val + 2 < 1024) ?_ _ _).trans ?_
  · rw [IntOp.andi_eq_one, IntOp.cmpi_sge, IntOp.cmpi_slt, hs, show (0#32).toInt = 0 from rfl, show (1024#32).toInt = 1024 from rfl]
    omega
  · by_cases h : j.val + 2 < 1024
    · rw [if_pos h, if_pos h, hg]
      congr 1
      show (j.val + 1024 - 1022) % 1024 = _
      omega
    · rw [if_neg h, if_neg h]

/-- 2 columns to the right. -/
theorem right2 (x : FVec Ideal S128x1024 .f32) (g : ℕ → EReal) (r : Fin 128) (hg : ∀ j : Fin 1024, x (ix2 r j) = g j.val)
    (j : Fin 1024) : shift 2#32 2#32 x (ix2 r j) = Spec.right 2 g j.val := by
  have hj := j.isLt
  have hs : (IntOp.subi (BitVec.ofNat 32 j.val) 2#32).toInt = (j.val : ℤ) - 2 :=
    toInt_sub (n := j.val) (k := 2) (by omega) (by omega)
  pointwise [shift, colv, Spec.right]
  refine (select_iff (p := 2 ≤ j.val) ?_ _ _).trans ?_
  · rw [IntOp.andi_eq_one, IntOp.cmpi_sge, IntOp.cmpi_slt, hs, show (0#32).toInt = 0 from rfl, show (1024#32).toInt = 1024 from rfl]
    omega
  · by_cases h : 2 ≤ j.val
    · rw [if_pos h, if_pos h, hg]
      congr 1
      show (j.val + 1024 - 2) % 1024 = _
      omega
    · rw [if_neg h, if_neg h]

/-- 3 columns to the left. -/
theorem left3 (x : FVec Ideal S128x1024 .f32) (g : ℕ → EReal) (r : Fin 128) (hg : ∀ j : Fin 1024, x (ix2 r j) = g j.val)
    (j : Fin 1024) : shift 1021#32 4294967293#32 x (ix2 r j) = Spec.left 3 g j.val := by
  have hj := j.isLt
  have hs : (IntOp.subi (BitVec.ofNat 32 j.val) 4294967293#32).toInt = (j.val : ℤ) + 3 := by
    rw [show IntOp.subi (BitVec.ofNat 32 j.val) 4294967293#32 = BitVec.ofNat 32 j.val + BitVec.ofNat 32 3 from
      (BitVec.sub_eq_add_neg _ _).trans (congrArg _ (by decide)), toInt_add (by omega) (by omega)]
    rfl
  pointwise [shift, colv, Spec.left]
  refine (select_iff (p := j.val + 3 < 1024) ?_ _ _).trans ?_
  · rw [IntOp.andi_eq_one, IntOp.cmpi_sge, IntOp.cmpi_slt, hs, show (0#32).toInt = 0 from rfl, show (1024#32).toInt = 1024 from rfl]
    omega
  · by_cases h : j.val + 3 < 1024
    · rw [if_pos h, if_pos h, hg]
      congr 1
      show (j.val + 1024 - 1021) % 1024 = _
      omega
    · rw [if_neg h, if_neg h]

/-- 3 columns to the right. -/
theorem right3 (x : FVec Ideal S128x1024 .f32) (g : ℕ → EReal) (r : Fin 128) (hg : ∀ j : Fin 1024, x (ix2 r j) = g j.val)
    (j : Fin 1024) : shift 3#32 3#32 x (ix2 r j) = Spec.right 3 g j.val := by
  have hj := j.isLt
  have hs : (IntOp.subi (BitVec.ofNat 32 j.val) 3#32).toInt = (j.val : ℤ) - 3 :=
    toInt_sub (n := j.val) (k := 3) (by omega) (by omega)
  pointwise [shift, colv, Spec.right]
  refine (select_iff (p := 3 ≤ j.val) ?_ _ _).trans ?_
  · rw [IntOp.andi_eq_one, IntOp.cmpi_sge, IntOp.cmpi_slt, hs, show (0#32).toInt = 0 from rfl, show (1024#32).toInt = 1024 from rfl]
    omega
  · by_cases h : 3 ≤ j.val
    · rw [if_pos h, if_pos h, hg]
      congr 1
      show (j.val + 1024 - 3) % 1024 = _
      omega
    · rw [if_neg h, if_neg h]

/-- 4 columns to the left. -/
theorem left4 (x : FVec Ideal S128x1024 .f32) (g : ℕ → EReal) (r : Fin 128) (hg : ∀ j : Fin 1024, x (ix2 r j) = g j.val)
    (j : Fin 1024) : shift 1020#32 4294967292#32 x (ix2 r j) = Spec.left 4 g j.val := by
  have hj := j.isLt
  have hs : (IntOp.subi (BitVec.ofNat 32 j.val) 4294967292#32).toInt = (j.val : ℤ) + 4 := by
    rw [show IntOp.subi (BitVec.ofNat 32 j.val) 4294967292#32 = BitVec.ofNat 32 j.val + BitVec.ofNat 32 4 from
      (BitVec.sub_eq_add_neg _ _).trans (congrArg _ (by decide)), toInt_add (by omega) (by omega)]
    rfl
  pointwise [shift, colv, Spec.left]
  refine (select_iff (p := j.val + 4 < 1024) ?_ _ _).trans ?_
  · rw [IntOp.andi_eq_one, IntOp.cmpi_sge, IntOp.cmpi_slt, hs, show (0#32).toInt = 0 from rfl, show (1024#32).toInt = 1024 from rfl]
    omega
  · by_cases h : j.val + 4 < 1024
    · rw [if_pos h, if_pos h, hg]
      congr 1
      show (j.val + 1024 - 1020) % 1024 = _
      omega
    · rw [if_neg h, if_neg h]

/-- 4 columns to the right. -/
theorem right4 (x : FVec Ideal S128x1024 .f32) (g : ℕ → EReal) (r : Fin 128) (hg : ∀ j : Fin 1024, x (ix2 r j) = g j.val)
    (j : Fin 1024) : shift 4#32 4#32 x (ix2 r j) = Spec.right 4 g j.val := by
  have hj := j.isLt
  have hs : (IntOp.subi (BitVec.ofNat 32 j.val) 4#32).toInt = (j.val : ℤ) - 4 :=
    toInt_sub (n := j.val) (k := 4) (by omega) (by omega)
  pointwise [shift, colv, Spec.right]
  refine (select_iff (p := 4 ≤ j.val) ?_ _ _).trans ?_
  · rw [IntOp.andi_eq_one, IntOp.cmpi_sge, IntOp.cmpi_slt, hs, show (0#32).toInt = 0 from rfl, show (1024#32).toInt = 1024 from rfl]
    omega
  · by_cases h : 4 ≤ j.val
    · rw [if_pos h, if_pos h, hg]
      congr 1
      show (j.val + 1024 - 4) % 1024 = _
      omega
    · rw [if_neg h, if_neg h]

/-- 5 columns to the left. -/
theorem left5 (x : FVec Ideal S128x1024 .f32) (g : ℕ → EReal) (r : Fin 128) (hg : ∀ j : Fin 1024, x (ix2 r j) = g j.val)
    (j : Fin 1024) : shift 1019#32 4294967291#32 x (ix2 r j) = Spec.left 5 g j.val := by
  have hj := j.isLt
  have hs : (IntOp.subi (BitVec.ofNat 32 j.val) 4294967291#32).toInt = (j.val : ℤ) + 5 := by
    rw [show IntOp.subi (BitVec.ofNat 32 j.val) 4294967291#32 = BitVec.ofNat 32 j.val + BitVec.ofNat 32 5 from
      (BitVec.sub_eq_add_neg _ _).trans (congrArg _ (by decide)), toInt_add (by omega) (by omega)]
    rfl
  pointwise [shift, colv, Spec.left]
  refine (select_iff (p := j.val + 5 < 1024) ?_ _ _).trans ?_
  · rw [IntOp.andi_eq_one, IntOp.cmpi_sge, IntOp.cmpi_slt, hs, show (0#32).toInt = 0 from rfl, show (1024#32).toInt = 1024 from rfl]
    omega
  · by_cases h : j.val + 5 < 1024
    · rw [if_pos h, if_pos h, hg]
      congr 1
      show (j.val + 1024 - 1019) % 1024 = _
      omega
    · rw [if_neg h, if_neg h]

/-- 5 columns to the right. -/
theorem right5 (x : FVec Ideal S128x1024 .f32) (g : ℕ → EReal) (r : Fin 128) (hg : ∀ j : Fin 1024, x (ix2 r j) = g j.val)
    (j : Fin 1024) : shift 5#32 5#32 x (ix2 r j) = Spec.right 5 g j.val := by
  have hj := j.isLt
  have hs : (IntOp.subi (BitVec.ofNat 32 j.val) 5#32).toInt = (j.val : ℤ) - 5 :=
    toInt_sub (n := j.val) (k := 5) (by omega) (by omega)
  pointwise [shift, colv, Spec.right]
  refine (select_iff (p := 5 ≤ j.val) ?_ _ _).trans ?_
  · rw [IntOp.andi_eq_one, IntOp.cmpi_sge, IntOp.cmpi_slt, hs, show (0#32).toInt = 0 from rfl, show (1024#32).toInt = 1024 from rfl]
    omega
  · by_cases h : 5 ≤ j.val
    · rw [if_pos h, if_pos h, hg]
      congr 1
      show (j.val + 1024 - 5) % 1024 = _
      omega
    · rw [if_neg h, if_neg h]

/-- The convolution. -/
theorem conv_at (x : FVec Ideal S160x1024 .f32) (t : Fin 6 → Fin 11 → EReal) (f : ℕ → ℕ → EReal) (i0 : ℕ)
    (hf : ∀ (r : Fin 160) (j : Fin 1024), 27 ≤ r.val → x (ix2 r j) = f (i0 + (r.val - 27)) j.val) (r : Fin 128) (j : Fin 1024) :
    conv x t (ix2 r j) = Spec.conv t f (i0 + r.val) j.val := by
  have e : ∀ (c : Fin 11) (j : Fin 1024), taps x (fun a => t a c) (ix2 r j) = Spec.taps (fun a => t a c) f (i0 + r.val) j.val :=
    fun c j => taps_at x _ f i0 hf r j
  unfold conv Spec.conv
  show shift 1019#32 4294967291#32 (taps x fun a => t a 0) (ix2 r j)
    + shift 1020#32 4294967292#32 (taps x fun a => t a 1) (ix2 r j)
    + shift 1021#32 4294967293#32 (taps x fun a => t a 2) (ix2 r j)
    + shift 1022#32 4294967294#32 (taps x fun a => t a 3) (ix2 r j)
    + shift 1023#32 4294967295#32 (taps x fun a => t a 4) (ix2 r j)
    + taps x (fun a => t a 5) (ix2 r j)
    + shift 1#32 1#32 (taps x fun a => t a 6) (ix2 r j)
    + shift 2#32 2#32 (taps x fun a => t a 7) (ix2 r j)
    + shift 3#32 3#32 (taps x fun a => t a 8) (ix2 r j)
    + shift 4#32 4#32 (taps x fun a => t a 9) (ix2 r j)
    + shift 5#32 5#32 (taps x fun a => t a 10) (ix2 r j) = _
  rw [left5 _ _ r (e 0) j, left4 _ _ r (e 1) j, left3 _ _ r (e 2) j, left2 _ _ r (e 3) j, left1 _ _ r (e 4) j, right1 _ _ r (e 6) j, right2 _ _ r (e 7) j, right3 _ _ r (e 8) j, right4 _ _ r (e 9) j, right5 _ _ r (e 10) j, e 5]

/-! ## The mixture and the softmax -/

/-- A row of the masked mixture. -/
theorem masked_at (w : Fin 4 → EReal) (x : Fin 4 → Vec Ideal S1x128x1024 .f32) (rows : IVec S128x1 32) (f : Fin 4 → ℕ → ℕ → EReal)
    (i : ℕ) (r : Fin 128) (j : Fin 1024) (hf : ∀ k, x k (ix3 0 r j) = f k i j.val) (hn : (rows (ix2 r 0)).toInt = i) :
    masked rows (mix w x) (ix2 r j) = Spec.mixed w f i j.val := by
  have hj := j.isLt
  pointwise [mix, masked, mixTerm, colv, Spec.mixed]
  rw [hf, hf, hf, hf, Consts.ofBits_bot]
  exact select_iff (by rw [IntOp.cmpi_sle, hn, toInt_ofNat (by omega)]; omega) _ _

/-- The softmax of a row. -/
theorem softmax_at (x : FVec Ideal S128x1024 .f32) (r : Fin 128) (j : Fin 1024) :
    softmax x (ix2 r j) = Spec.prob (fun k => x (ix2 r k)) j := by
  pointwise [softmax, expv, Spec.prob, Spec.top]
  rw [Consts.ofBits_bot]

/-- A row's greatest probability over the greatest code. -/
theorem rowMax_at (x : FVec Ideal S128x1024 .f32) (r : Fin 128) :
    rowMax (softmax x) (ix2 r 0) = Spec.amax (fun k => x (ix2 r k)) := by
  have h : (fun k => softmax x (ix2 r k)) = Spec.prob (fun k => x (ix2 r k)) := funext fun k => softmax_at x r k
  pointwise [rowMax, Spec.amax, Spec.top]
  rw [Consts.ofBits_bot, h]

/-! ## The quantiser -/

/-- One comparison of the search for the exponent. -/
theorem stepv_at (y : FVec Ideal S128x1 .f32) (k : ℕ) (e : IVec S128x1 32) (r : Fin 128) (n : ℕ)
    (h : e (ix2 r 0) = BitVec.ofNat 32 n) :
    stepv y (BitVec.ofNat 32 k) e (ix2 r 0) = BitVec.ofNat 32 (Exponent.step (y (ix2 r 0)) k n) := by
  pointwise [stepv, Exponent.step]
  have ha : IntOp.addi (e (ix2 r 0)) (BitVec.ofNat 32 k) = BitVec.ofNat 32 (n + k) := by
    rw [h]
    exact (BitVec.ofNat_add n k).symm
  have hs : IntOp.shli .vector (BitVec.ofNat 32 (n + k)) 23#32 = Exponent.word (n + k) := rfl
  rw [ha, hs, h]
  by_cases hc : Ideal.ofBits .f32 (Exponent.word (n + k)) ≤ y (ix2 r 0)
  · rw [if_pos hc, if_pos hc]
  · rw [if_neg hc, if_neg hc]

/-- The exponent field of a row's number. -/
theorem fieldv_at (y : FVec Ideal S128x1 .f32) (r : Fin 128) :
    fieldv y (ix2 r 0) = BitVec.ofNat 32 (Exponent.field (y (ix2 r 0))) := by
  unfold fieldv Exponent.field
  exact stepv_at y 1 _ r _ (stepv_at y 2 _ r _ (stepv_at y 4 _ r _ (stepv_at y 8 _ r _ (stepv_at y 16 _ r _ (stepv_at y 32 _ r _
    (stepv_at y 64 _ r _ (stepv_at y 128 _ r 0 rfl)))))))

/-- The scale of a row. -/
theorem scalev_at (y : FVec Ideal S128x1 .f32) (r : Fin 128) (h : y (ix2 r 0) < 1) :
    scalev y (ix2 r 0) = Ideal.exp2 (Exponent.expo (y (ix2 r 0))) := by
  rw [← Exponent.scale_eq h]
  have hf := Exponent.field_le h
  have e := fieldv_at y r
  generalize Exponent.field (y (ix2 r 0)) = n at *
  pointwise [scalev, Exponent.word]
  rw [e]
  have : ∀ n : Fin 127, IntOp.shli .vector (IntOp.addi (IntOp.subi (BitVec.ofNat 32 n.val) 126#32) 127#32) 23#32
      = BitVec.ofNat 32 (n.val + 1) <<< 23 := by decide +kernel
  exact congrArg _ (this ⟨n, by omega⟩)

/-- The inverse scale of a row. -/
theorem invv_at (y : FVec Ideal S128x1 .f32) (r : Fin 128) (h : y (ix2 r 0) < 1) :
    invv y (ix2 r 0) = Ideal.exp2 (0 - Exponent.expo (y (ix2 r 0))) := by
  rw [← Exponent.inv_eq h]
  have hf := Exponent.field_le h
  have e := fieldv_at y r
  generalize Exponent.field (y (ix2 r 0)) = n at *
  pointwise [invv, Exponent.word]
  rw [e]
  have : ∀ n : Fin 127, IntOp.shli .vector (IntOp.subi 127#32 (IntOp.subi (BitVec.ofNat 32 n.val) 126#32)) 23#32
      = BitVec.ofNat 32 (253 - n.val) <<< 23 := by decide +kernel
  exact congrArg _ (this ⟨n, by omega⟩)

/-- One entry of a head's output. -/
theorem outv_at (x : FVec Ideal S128x1024 .f32) (v : Vec Ideal S1x1x1024x128 .fp8e4m3) (s : EReal) (r d : Fin 128) :
    outv (softmax x) v s (ix3 0 r d) = Spec.out (fun k => x (ix2 r k)) (fun k => v (ix4 0 0 k d)) s := by
  have hy : rowMax (softmax x) (ix2 r 0) < 1 := by
    rw [rowMax_at]
    exact Spec.amax_lt_one _
  pointwise [outv, codes]
  rw [scalev_at _ _ hy, invv_at _ _ hy, rowMax_at]
  simp only [softmax_at]
  rfl

end Cert.KernelIdeal.Block
-- ==== Proof.KernelHead.lean ====
module

public import proofs.«01_k».proof.Proof.KernelRead

/-! One entry of what a grid point stores for a head, in plain arithmetic on the entries of the blocks it reads. -/

@[expose] public section

set_option maxRecDepth 16384

noncomputable section

namespace Cert.KernelIdeal.Block

open Cert.KernelIdeal Cert.KernelIdeal.Gen Idealize.ShloMosaic Idealize.ShloMosaic.TcCoe Idealize.SL.Sem

/-- The group of a grid point. -/
def gOf (i : grid0.Coords) : Fin 5 := ⟨(i 1).val, i1_lt i⟩

/-! ## What the point reads -/

/-- A number of one head is the table's entry at that head. -/
theorem perHead_at (X : Vec Ideal S20 .f32) (i : grid0.Coords) (h : Fin 4) : perHead X i h = X (ix1 (Spec.hd (gOf i) h)) := by
  unfold perHead
  show X _ = X _
  congr 1
  funext a
  match a with
  | ⟨0, _⟩ => exact Fin.ext (by show headIx i h + 1 * 0 = 4 * (i 1).val + h.val; rw [headIx_eq]; omega)

/-- A convolution weight is the table's entry at its head, row and column. -/
theorem theta_at (X : Vec Ideal S20x66 .f32) (i : grid0.Coords) (h : Fin 4) (a : Fin 6) (c : Fin 11) :
    theta X i h a c = X (ix2 (Spec.hd (gOf i) h) ⟨a.val * 11 + c.val, by have := a.isLt; have := c.isLt; omega⟩) := by
  unfold theta
  show X _ = X _
  congr 1
  funext b
  match b with
  | ⟨0, _⟩ => exact Fin.ext (by show headIx i h + 1 * 0 = 4 * (i 1).val + h.val; rw [headIx_eq]; omega)
  | ⟨1, _⟩ => exact Fin.ext (by show a.val * 11 + c.val + 1 * 0 = a.val * 11 + c.val; omega)

/-- A mixing weight is the table's entry at its group and pair of heads. -/
theorem mixW_at (X : Vec Ideal S5x16 .f32) (i : grid0.Coords) (o k : Fin 4) :
    mixW X i o k = X (ix2 (gOf i) ⟨o.val * 4 + k.val, by have := o.isLt; have := k.isLt; omega⟩) := by
  unfold mixW
  show X _ = X _
  congr 1
  funext b
  match b with
  | ⟨0, _⟩ => exact Fin.ext (by show groupIx i + 1 * 0 = (i 1).val; rw [groupIx_eq]; omega)
  | ⟨1, _⟩ => exact Fin.ext (by show o.val * 4 + k.val + 1 * 0 = o.val * 4 + k.val; omega)

/-- A query row of the block is the padded array's row, counted from the block's first. -/
theorem qRows_at (X : Vec Ideal S1x4x1056x128 .fp8e4m3) (i : grid0.Coords) (h : Fin 4) (r : Fin 160) (d : Fin 128) :
    qRows X i h (ix4 0 0 r d) = X (ix4 0 h ⟨128 * (i 2).val + r.val, by have := i2_lt i; have := r.isLt; omega⟩ d) := by
  unfold qRows
  show X _ = X _
  congr 1
  funext b
  match b with
  | ⟨0, _⟩ => exact Fin.ext (by show 0 + 1 * 0 = 0; omega)
  | ⟨1, _⟩ => exact Fin.ext (by show h.val + 1 * 0 = h.val; omega)
  | ⟨2, _⟩ => exact Fin.ext (by show rowIx i + 1 * r.val = 128 * (i 2).val + r.val; rw [rowIx_eq]; omega)
  | ⟨3, _⟩ => exact Fin.ext (by show 0 + 1 * d.val = d.val; omega)

/-- A key or value row is the array's. -/
theorem kvRows_at (X : Vec Ideal S1x4x1024x128 .fp8e4m3) (h : Fin 4) (j : Fin 1024) (d : Fin 128) :
    kvRows X h (ix4 0 0 j d) = X (ix4 0 h j d) := by
  unfold kvRows
  show X _ = X _
  congr 1
  funext b
  match b with
  | ⟨0, _⟩ => exact Fin.ext (by show 0 + 1 * 0 = 0; omega)
  | ⟨1, _⟩ => exact Fin.ext (by show h.val + 1 * 0 = h.val; omega)
  | ⟨2, _⟩ => exact Fin.ext (by show 0 + 1 * j.val = j.val; omega)
  | ⟨3, _⟩ => exact Fin.ext (by show 0 + 1 * d.val = d.val; omega)

/-- The number of a logit row, counted from the first query. -/
theorem rows160 (i : grid0.Coords) (r : Fin 160) :
    (k0_pay2 i (ix2 r 0)).toInt = ((128 * (i 2).val + r.val : ℕ) : ℤ) - 32 := by
  have := i2_lt i
  have := r.isLt
  pointwise [k0_pay2]
  have e : IntOp.addi (Scalar.subi (Scalar.muli (BitVec.ofNat 32 (i 2).val) 128#32) 32#32) (BitVec.ofNat 32 r.val)
      = BitVec.ofNat 32 (128 * (i 2).val + r.val) - BitVec.ofNat 32 32 := by
    have : ∀ (t : Fin 8) (r : Fin 160), IntOp.addi (Scalar.subi (Scalar.muli (BitVec.ofNat 32 t.val) 128#32) 32#32)
        (BitVec.ofNat 32 r.val) = BitVec.ofNat 32 (128 * t.val + r.val) - BitVec.ofNat 32 32 := by decide +kernel
    exact this (i 2) r
  exact (congrArg BitVec.toInt e).trans (toInt_sub (by omega) (by omega))

/-- The number of a query row. -/
theorem rows128 (i : grid0.Coords) (r : Fin 128) : (k0_pay3 i (ix2 r 0)).toInt = ((128 * (i 2).val + r.val : ℕ) : ℤ) := by
  have := i2_lt i
  have := r.isLt
  pointwise [k0_pay3]
  have e : IntOp.addi (Scalar.muli (BitVec.ofNat 32 (i 2).val) 128#32) (BitVec.ofNat 32 r.val)
      = BitVec.ofNat 32 (128 * (i 2).val + r.val) := by
    have : ∀ (t : Fin 8) (r : Fin 128), IntOp.addi (Scalar.muli (BitVec.ofNat 32 t.val) 128#32)
        (BitVec.ofNat 32 r.val) = BitVec.ofNat 32 (128 * t.val + r.val) := by decide +kernel
    exact this (i 2) r
  exact (congrArg BitVec.toInt e).trans (toInt_ofNat (by omega))

/-! ## What it computes -/

variable (X0 X1 : Vec Ideal S20 .f32) (X2 : Vec Ideal S20x66 .f32) (X3 : Vec Ideal S5x16 .f32)
  (X4 : Vec Ideal S1x4x1056x128 .fp8e4m3) (X5 X6 : Vec Ideal S1x4x1024x128 .fp8e4m3) (i : grid0.Coords)
  (sq sv : Fin 20 → EReal) (th : Fin 20 → Fin 6 → Fin 11 → EReal) (w : Fin 5 → Fin 4 → Fin 4 → EReal)
  (q k v : Fin 20 → ℕ → Fin 128 → EReal)

include X0 in
/-- The convolved logits of a head. -/
theorem convHead_at (h0 : ∀ h, X0 (ix1 h) = sq h)
    (h2 : ∀ (h : Fin 20) (a : Fin 6) (c : Fin 11) (hl : a.val * 11 + c.val < 66), X2 (ix2 h ⟨a.val * 11 + c.val, hl⟩) = th h a c)
    (h4 : ∀ (h : Fin 4) (n : Fin 1056) (d : Fin 128), 32 ≤ n.val → X4 (ix4 0 h n d) = q (Spec.hd (gOf i) h) (n.val - 32) d)
    (h5 : ∀ (h : Fin 4) (j : Fin 1024) (d : Fin 128), X5 (ix4 0 h j d) = k (Spec.hd (gOf i) h) j.val d)
    (h : Fin 4) (r : Fin 128) (j : Fin 1024) :
    convHead X0 X2 X4 X5 i h (ix3 0 r j) = Spec.conv (th (Spec.hd (gOf i) h))
      (Spec.logit (q (Spec.hd (gOf i) h)) (k (Spec.hd (gOf i) h)) (sq (Spec.hd (gOf i) h))) (128 * (i 2).val + r.val) j.val := by
  have ht : theta X2 i h = th (Spec.hd (gOf i) h) := funext fun a => funext fun c => by rw [theta_at, h2]
  pointwise [convHead]
  rw [ht]
  refine conv_at _ _ _ _ (fun r j hr => ?_) r j
  rw [logits_at _ _ _ _ _ _ _ (rows160 i r), perHead_at, h0]
  unfold Spec.logit
  by_cases hc : j.val + 32 ≤ 128 * (i 2).val + r.val
  · rw [if_pos hc, if_pos (by omega)]
    refine congrArg (· * _) (Finset.sum_congr rfl fun d _ => ?_)
    rw [qRows_at, kvRows_at, h5, h4 _ _ _ (by show 32 ≤ 128 * (i 2).val + r.val; omega)]
    refine congrArg (· * _) (congrArg (q _ · d) ?_)
    show 128 * (i 2).val + r.val - 32 = _
    omega
  · rw [if_neg hc, if_neg (by omega)]

include X0 in
/-- One entry of what the point stores for a head. -/
theorem outHead_at (h0 : ∀ h, X0 (ix1 h) = sq h) (h1 : ∀ h, X1 (ix1 h) = sv h)
    (h2 : ∀ (h : Fin 20) (a : Fin 6) (c : Fin 11) (hl : a.val * 11 + c.val < 66), X2 (ix2 h ⟨a.val * 11 + c.val, hl⟩) = th h a c)
    (h3 : ∀ (g : Fin 5) (o k : Fin 4) (hl : o.val * 4 + k.val < 16), X3 (ix2 g ⟨o.val * 4 + k.val, hl⟩) = w g o k)
    (h4 : ∀ (h : Fin 4) (n : Fin 1056) (d : Fin 128), 32 ≤ n.val → X4 (ix4 0 h n d) = q (Spec.hd (gOf i) h) (n.val - 32) d)
    (h5 : ∀ (h : Fin 4) (j : Fin 1024) (d : Fin 128), X5 (ix4 0 h j d) = k (Spec.hd (gOf i) h) j.val d)
    (h6 : ∀ (h : Fin 4) (j : Fin 1024) (d : Fin 128), X6 (ix4 0 h j d) = v (Spec.hd (gOf i) h) j.val d)
    (o : Fin 4) (r d : Fin 128) :
    outHead X0 X1 X2 X3 X4 X5 X6 i o (ix3 0 r d) = Spec.head sq sv th w q k v (gOf i) o (128 * (i 2).val + r.val) d := by
  have hw : mixW X3 i o = w (gOf i) o := funext fun k => by rw [mixW_at, h3]
  unfold outHead probs Spec.head Spec.row
  rw [outv_at, perHead_at, h1, hw]
  congr 1
  · funext j
    exact masked_at _ _ _ _ _ r j (fun c => convHead_at X0 X2 X4 X5 i sq th q k h0 h2 h4 h5 c r j) (rows128 i r)
  · funext j
    rw [kvRows_at, h6]

end Cert.KernelIdeal.Block
-- ==== Proof.KernelArr.lean ====
module

public import proofs.«01_k».proof.Proof.KernelPoint
public import proofs.«01_k».proof.Proof.KernelHead

/-! The array the kernel leaves is the result of `Spec` on its arguments. -/

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- Where each window stands at a grid point: the tables whole, the queries, keys and values at the batch and group, the
output at the batch, row block and group. -/
theorem idx : ∀ t : Fin cfg0.N,
    win0_0.index t = ![0] ∧ win0_1.index t = ![0] ∧ win0_2.index t = ![0, 0] ∧ win0_3.index t = ![0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0]
    ∧ win0_7.index t = ![(grid0.coords t 0).val, (grid0.coords t 2).val, (grid0.coords t 1).val] :=
  (by decide +kernel : ∀ t : Fin grid0.N, _)

/-- The batch of a grid point. -/
def bOf (i : grid0.Coords) : Fin 2 := i 0

/-! ## Where a block's entries stand in its array -/

/-- The query-key scales: a block's entry stands at its own index. -/
theorem emb0 (t : Fin cfg0.N) (h : Fin 20) :
    ((View.whole main_v7).slice (win0_0.rect t)).emb (ix1 h) = ix1 h := by
  have e := (idx t).1
  funext a
  match a with
  | ⟨0, _⟩ => exact Fin.ext (by
      show win0_0.index t 0 * 20 + 1 * h.val = h.val
      rw [e]
      first | rfl | (show _ * _ + _ = _; simp only [Matrix.cons_val]; omega))

/-- The value scales: a block's entry stands at its own index. -/
theorem emb1 (t : Fin cfg0.N) (h : Fin 20) :
    ((View.whole main_arg5).slice (win0_1.rect t)).emb (ix1 h) = ix1 h := by
  have e := (idx t).2.1
  funext a
  match a with
  | ⟨0, _⟩ => exact Fin.ext (by
      show win0_1.index t 0 * 20 + 1 * h.val = h.val
      rw [e]
      first | rfl | (show _ * _ + _ = _; simp only [Matrix.cons_val]; omega))

/-- The convolution weights: a block's entry stands at its own index. -/
theorem emb2 (t : Fin cfg0.N) (h : Fin 20) (k : Fin 66) :
    ((View.whole main_v8).slice (win0_2.rect t)).emb (ix2 h k) = ix2 h k := by
  have e := (idx t).2.2.1
  funext a
  match a with
  | ⟨0, _⟩ => exact Fin.ext (by
      show win0_2.index t 0 * 20 + 1 * h.val = h.val
      rw [e]
      first | rfl | (show _ * _ + _ = _; simp only [Matrix.cons_val]; omega))
  | ⟨1, _⟩ => exact Fin.ext (by
      show win0_2.index t 1 * 66 + 1 * k.val = k.val
      rw [e]
      first | rfl | (show _ * _ + _ = _; simp only [Matrix.cons_val]; omega))

/-- The mixing weights: a block's entry stands at its own index. -/
theorem emb3 (t : Fin cfg0.N) (h : Fin 5) (k : Fin 16) :
    ((View.whole main_v9).slice (win0_3.rect t)).emb (ix2 h k) = ix2 h k := by
  have e := (idx t).2.2.2.1
  funext a
  match a with
  | ⟨0, _⟩ => exact Fin.ext (by
      show win0_3.index t 0 * 5 + 1 * h.val = h.val
      rw [e]
      first | rfl | (show _ * _ + _ = _; simp only [Matrix.cons_val]; omega))
  | ⟨1, _⟩ => exact Fin.ext (by
      show win0_3.index t 1 * 16 + 1 * k.val = k.val
      rw [e]
      first | rfl | (show _ * _ + _ = _; simp only [Matrix.cons_val]; omega))

/-- The padded queries: a block's head is that head of the grid point's group, in its batch. -/
theorem emb4 (t : Fin cfg0.N) (h : Fin 4) (n : Fin 1056) (d : Fin 128) :
    ((View.whole main_v2).slice (win0_4.rect t)).emb (ix4 0 h n d) = ix4 (bOf (grid0.coords t)) (Spec.hd (gOf (grid0.coords t)) h) n d := by
  have e := (idx t).2.2.2.2.1
  funext a
  match a with
  | ⟨0, _⟩ => exact Fin.ext (by
      show win0_4.index t 0 * 1 + 1 * 0 = ((grid0.coords t) 0).val
      rw [e]
      first | rfl | (show _ * _ + _ = _; simp only [Matrix.cons_val]; omega))
  | ⟨1, _⟩ => exact Fin.ext (by
      show win0_4.index t 1 * 4 + 1 * h.val = 4 * ((grid0.coords t) 1).val + h.val
      rw [e]
      first | rfl | (show _ * _ + _ = _; simp only [Matrix.cons_val]; omega))
  | ⟨2, _⟩ => exact Fin.ext (by
      show win0_4.index t 2 * 1056 + 1 * n.val = n.val
      rw [e]
      first | rfl | (show _ * _ + _ = _; simp only [Matrix.cons_val]; omega))
  | ⟨3, _⟩ => exact Fin.ext (by
      show win0_4.index t 3 * 128 + 1 * d.val = d.val
      rw [e]
      first | rfl | (show _ * _ + _ = _; simp only [Matrix.cons_val]; omega))

/-- The keys: a block's head is that head of the grid point's group, in its batch. -/
theorem emb5 (t : Fin cfg0.N) (h : Fin 4) (n : Fin 1024) (d : Fin 128) :
    ((View.whole main_v3).slice (win0_5.rect t)).emb (ix4 0 h n d) = ix4 (bOf (grid0.coords t)) (Spec.hd (gOf (grid0.coords t)) h) n d := by
  have e := (idx t).2.2.2.2.2.1
  funext a
  match a with
  | ⟨0, _⟩ => exact Fin.ext (by
      show win0_5.index t 0 * 1 + 1 * 0 = ((grid0.coords t) 0).val
      rw [e]
      first | rfl | (show _ * _ + _ = _; simp only [Matrix.cons_val]; omega))
  | ⟨1, _⟩ => exact Fin.ext (by
      show win0_5.index t 1 * 4 + 1 * h.val = 4 * ((grid0.coords t) 1).val + h.val
      rw [e]
      first | rfl | (show _ * _ + _ = _; simp only [Matrix.cons_val]; omega))
  | ⟨2, _⟩ => exact Fin.ext (by
      show win0_5.index t 2 * 1024 + 1 * n.val = n.val
      rw [e]
      first | rfl | (show _ * _ + _ = _; simp only [Matrix.cons_val]; omega))
  | ⟨3, _⟩ => exact Fin.ext (by
      show win0_5.index t 3 * 128 + 1 * d.val = d.val
      rw [e]
      first | rfl | (show _ * _ + _ = _; simp only [Matrix.cons_val]; omega))

/-- The values: a block's head is that head of the grid point's group, in its batch. -/
theorem emb6 (t : Fin cfg0.N) (h : Fin 4) (n : Fin 1024) (d : Fin 128) :
    ((View.whole main_v4).slice (win0_6.rect t)).emb (ix4 0 h n d) = ix4 (bOf (grid0.coords t)) (Spec.hd (gOf (grid0.coords t)) h) n d := by
  have e := (idx t).2.2.2.2.2.2.1
  funext a
  match a with
  | ⟨0, _⟩ => exact Fin.ext (by
      show win0_6.index t 0 * 1 + 1 * 0 = ((grid0.coords t) 0).val
      rw [e]
      first | rfl | (show _ * _ + _ = _; simp only [Matrix.cons_val]; omega))
  | ⟨1, _⟩ => exact Fin.ext (by
      show win0_6.index t 1 * 4 + 1 * h.val = 4 * ((grid0.coords t) 1).val + h.val
      rw [e]
      first | rfl | (show _ * _ + _ = _; simp only [Matrix.cons_val]; omega))
  | ⟨2, _⟩ => exact Fin.ext (by
      show win0_6.index t 2 * 1024 + 1 * n.val = n.val
      rw [e]
      first | rfl | (show _ * _ + _ = _; simp only [Matrix.cons_val]; omega))
  | ⟨3, _⟩ => exact Fin.ext (by
      show win0_6.index t 3 * 128 + 1 * d.val = d.val
      rw [e]
      first | rfl | (show _ * _ + _ = _; simp only [Matrix.cons_val]; omega))

/-- Column `128 * o + l` of group `g`'s block. -/
def colOf (g : Fin 5) (l : Fin 512) : Fin 2560 := ⟨512 * g.val + l.val, by have := g.isLt; have := l.isLt; omega⟩

/-- Row `r` of row block `t`. -/
def rowOf (i : grid0.Coords) (r : Fin 128) : Fin 1024 := ⟨128 * (i 2).val + r.val, by have := i2_lt i; have := r.isLt; omega⟩

/-- The output: a block's rows and columns are those of the grid point's row block and group, in its batch. -/
theorem emb7 (t : Fin cfg0.N) (r : Fin 128) (l : Fin 512) :
    ((View.whole main_v10).slice (win0_7.rect t)).emb (ix3 0 r l) = ix3 (bOf (grid0.coords t)) (rowOf (grid0.coords t) r) (colOf (gOf (grid0.coords t)) l) := by
  have e := (idx t).2.2.2.2.2.2.2
  funext a
  match a with
  | ⟨0, _⟩ => exact Fin.ext (by
      show win0_7.index t 0 * 1 + 1 * 0 = ((grid0.coords t) 0).val
      rw [e]
      first | rfl | (show _ * _ + _ = _; simp only [Matrix.cons_val]; omega))
  | ⟨1, _⟩ => exact Fin.ext (by
      show win0_7.index t 1 * 128 + 1 * r.val = 128 * ((grid0.coords t) 2).val + r.val
      rw [e]
      first | rfl | (show _ * _ + _ = _; simp only [Matrix.cons_val]; omega))
  | ⟨2, _⟩ => exact Fin.ext (by
      show win0_7.index t 2 * 512 + 1 * l.val = 512 * ((grid0.coords t) 1).val + l.val
      rw [e]
      first | rfl | (show _ * _ + _ = _; simp only [Matrix.cons_val]; omega))

/-! ## The blocks' entries as entries of the arguments -/

/-- The queries' scale of a head. -/
def qsc (c : Dev nD) (h : Fin 20) : EReal := m ((c : Thread nD τ).loc main_arg1) (ix1 h)

/-- The keys' scale of a head. -/
def ksc (c : Dev nD) (h : Fin 20) : EReal := m ((c : Thread nD τ).loc main_arg3) (ix1 h)

/-- A query-key scale is the product of the two scales and the constant. -/
theorem blk0 (c : Dev nD) (t : Fin cfg0.N) (h : Fin 20) : (iblk m c 0 t : Vec Ideal S20 .f32) (ix1 h) =
    qsc m c h * ksc m c h * Ideal.ofBits .f32 0x3DB504F3#32 := by
  blk_simp [iblk, V, idx t]
  entry_read
  refine (congrArg _ (emb0 t h)).trans ?_
  pointwise
  try rfl

/-- A value scale is the argument's. -/
theorem blk1 (c : Dev nD) (t : Fin cfg0.N) (h : Fin 20) : iblk m c 1 t (ix1 h) = m ((c : Thread nD τ).loc main_arg5) (ix1 h) := by
  blk_ext [iblk, V, idx t]

/-- A convolution weight, in the flattened table, is the argument's. -/
theorem blk2 (c : Dev nD) (t : Fin cfg0.N) (h : Fin 20) (a : Fin 6) (k : Fin 11) (hl : a.val * 11 + k.val < 66) :
    iblk m c 2 t (ix2 h ⟨a.val * 11 + k.val, hl⟩) = m ((c : Thread nD τ).loc main_arg6) (ix3 h a k) := by
  have := k.isLt
  blk_simp [iblk, V, idx t]
  entry_read
  refine (congrArg _ (emb2 t h _)).trans ?_
  pointwise

/-- A mixing weight, in the flattened table, is the argument's. -/
theorem blk3 (c : Dev nD) (t : Fin cfg0.N) (g : Fin 5) (o k : Fin 4) (hl : o.val * 4 + k.val < 16) :
    iblk m c 3 t (ix2 g ⟨o.val * 4 + k.val, hl⟩) = m ((c : Thread nD τ).loc main_arg7) (ix3 g o k) := by
  have := k.isLt
  blk_simp [iblk, V, idx t]
  entry_read
  refine (congrArg _ (emb3 t g _)).trans ?_
  pointwise

/-- A query row past the padding is the argument's row, 32 rows earlier. -/
theorem blk4 (c : Dev nD) (t : Fin cfg0.N) (h : Fin 4) (n : Fin 1056) (d : Fin 128) (hn : 32 ≤ n.val) :
    iblk m c 4 t (ix4 0 h n d) = m ((c : Thread nD τ).loc main_arg0)
      (ix4 (bOf (grid0.coords t)) (Fin.ofNat 1024 (n.val - 32)) (Spec.hd (gOf (grid0.coords t)) h) d) := by
  have := n.isLt
  blk_simp [iblk, V, idx t]
  entry_read
  refine (congrArg _ (emb4 t h n d)).trans ?_
  pointwise
  rw [dif_pos ⟨hn, by omega⟩]
  have : (⟨n.val - 32, by omega⟩ : Fin 1024) = Fin.ofNat 1024 (n.val - 32) :=
    Fin.ext (by show n.val - 32 = (n.val - 32) % 1024; omega)
  exact congrArg _ (congrArg (ix4 _ · _ _) this)

/-- A key is the argument's. -/
theorem blk5 (c : Dev nD) (t : Fin cfg0.N) (h : Fin 4) (n : Fin 1024) (d : Fin 128) :
    iblk m c 5 t (ix4 0 h n d) = m ((c : Thread nD τ).loc main_arg2)
      (ix4 (bOf (grid0.coords t)) (Fin.ofNat 1024 n.val) (Spec.hd (gOf (grid0.coords t)) h) d) := by
  have := n.isLt
  blk_simp [iblk, V, idx t]
  entry_read
  refine (congrArg _ (emb5 t h n d)).trans ?_
  pointwise
  have : n = Fin.ofNat 1024 n.val := Fin.ext (by show n.val = n.val % 1024; omega)
  exact congrArg _ (congrArg (ix4 _ · _ _) this)

/-- A value is the argument's. -/
theorem blk6 (c : Dev nD) (t : Fin cfg0.N) (h : Fin 4) (n : Fin 1024) (d : Fin 128) :
    iblk m c 6 t (ix4 0 h n d) = m ((c : Thread nD τ).loc main_arg4)
      (ix4 (bOf (grid0.coords t)) (Fin.ofNat 1024 n.val) (Spec.hd (gOf (grid0.coords t)) h) d) := by
  have := n.isLt
  blk_simp [iblk, V, idx t]
  entry_read
  refine (congrArg _ (emb6 t h n d)).trans ?_
  pointwise
  have : n = Fin.ofNat 1024 n.val := Fin.ext (by show n.val = n.val % 1024; omega)
  exact congrArg _ (congrArg (ix4 _ · _ _) this)

/-! ## The array -/

/-- The result on the kernel's arguments. -/
def G (c : Dev nD) : S2x1024x2560.Idx → EReal := fun y => Spec.result
  (fun b s h d => m ((c : Thread nD τ).loc main_arg0) (ix4 b s h d)) (fun h => m ((c : Thread nD τ).loc main_arg1) (ix1 h))
  (fun b s h d => m ((c : Thread nD τ).loc main_arg2) (ix4 b s h d)) (fun h => m ((c : Thread nD τ).loc main_arg3) (ix1 h))
  (fun b s h d => m ((c : Thread nD τ).loc main_arg4) (ix4 b s h d)) (fun h => m ((c : Thread nD τ).loc main_arg5) (ix1 h))
  (fun h a k => m ((c : Thread nD τ).loc main_arg6) (ix3 h a k)) (fun g o k => m ((c : Thread nD τ).loc main_arg7) (ix3 g o k))
  (y 0) (y 1) (y 2)

/-- A point's block, at one index, is an entry of the head its column lies in. -/
theorem outBlk_head (X0 X1 : Vec Ideal S20 .f32) (X2 : Vec Ideal S20x66 .f32) (X3 : Vec Ideal S5x16 .f32)
    (X4 : Vec Ideal S1x4x1056x128 .fp8e4m3) (X5 X6 : Vec Ideal S1x4x1024x128 .fp8e4m3) (i : grid0.Coords)
    (sq sv : Fin 20 → EReal) (th : Fin 20 → Fin 6 → Fin 11 → EReal) (w : Fin 5 → Fin 4 → Fin 4 → EReal)
    (q k v : Fin 20 → ℕ → Fin 128 → EReal) (h0 : ∀ h, X0 (ix1 h) = sq h) (h1 : ∀ h, X1 (ix1 h) = sv h)
    (h2 : ∀ (h : Fin 20) (a : Fin 6) (c : Fin 11) (hl : a.val * 11 + c.val < 66), X2 (ix2 h ⟨a.val * 11 + c.val, hl⟩) = th h a c)
    (h3 : ∀ (g : Fin 5) (o k : Fin 4) (hl : o.val * 4 + k.val < 16), X3 (ix2 g ⟨o.val * 4 + k.val, hl⟩) = w g o k)
    (h4 : ∀ (h : Fin 4) (n : Fin 1056) (d : Fin 128), 32 ≤ n.val → X4 (ix4 0 h n d) = q (Spec.hd (gOf i) h) (n.val - 32) d)
    (h5 : ∀ (h : Fin 4) (j : Fin 1024) (d : Fin 128), X5 (ix4 0 h j d) = k (Spec.hd (gOf i) h) j.val d)
    (h6 : ∀ (h : Fin 4) (j : Fin 1024) (d : Fin 128), X6 (ix4 0 h j d) = v (Spec.hd (gOf i) h) j.val d)
    (r : Fin 128) (l : Fin 512) :
    outBlk X0 X1 X2 X3 X4 X5 X6 i (ix3 0 r l) = Spec.head sq sv th w q k v (gOf i)
      ⟨l.val / 128, by have := l.isLt; omega⟩ (128 * (i 2).val + r.val) ⟨l.val % 128, Nat.mod_lt _ (by omega)⟩ :=
  outHead_at X0 X1 X2 X3 X4 X5 X6 i sq sv th w q k v h0 h1 h2 h3 h4 h5 h6
    ⟨l.val / 128, by have := l.isLt; omega⟩ r ⟨l.val % 128, Nat.mod_lt _ (by omega)⟩

/-- An entry of the result is an entry of the head its column lies in. -/
theorem result_head (Q : Fin 2 → Fin 1024 → Fin 20 → Fin 128 → EReal) (qs : Fin 20 → EReal)
    (K : Fin 2 → Fin 1024 → Fin 20 → Fin 128 → EReal) (ks : Fin 20 → EReal)
    (V : Fin 2 → Fin 1024 → Fin 20 → Fin 128 → EReal) (vs : Fin 20 → EReal)
    (th : Fin 20 → Fin 6 → Fin 11 → EReal) (w : Fin 5 → Fin 4 → Fin 4 → EReal)
    (b : Fin 2) (i : Fin 1024) (g : Fin 5) (l : Fin 512) (n : ℕ) (hn : i.val = n) :
    Spec.result Q qs K ks V vs th w b i (colOf g l) =
      Spec.head (fun h => qs h * ks h * Ideal.ofBits .f32 0x3DB504F3#32) vs th w (fun h n d => Q b (Fin.ofNat 1024 n) h d)
        (fun h n d => K b (Fin.ofNat 1024 n) h d) (fun h n d => V b (Fin.ofNat 1024 n) h d)
        g ⟨l.val / 128, by have := l.isLt; omega⟩ n ⟨l.val % 128, Nat.mod_lt _ (by omega)⟩ := by
  have hl := l.isLt
  have hg := g.isLt
  unfold Spec.result
  rw [hn]
  have e1 : (⟨(colOf g l).val / 512, by have := (colOf g l).isLt; omega⟩ : Fin 5) = g :=
    Fin.ext (by show (512 * g.val + l.val) / 512 = g.val; omega)
  have e2 : (⟨(colOf g l).val / 128 % 4, by omega⟩ : Fin 4) = ⟨l.val / 128, by omega⟩ :=
    Fin.ext (by show (512 * g.val + l.val) / 128 % 4 = l.val / 128; omega)
  have e3 : (⟨(colOf g l).val % 128, by omega⟩ : Fin 128) = ⟨l.val % 128, by omega⟩ :=
    Fin.ext (by show (512 * g.val + l.val) % 128 = l.val % 128; omega)
  rw [e1, e2, e3]

/-- What a grid point stores, at one index of its block, is the result at the index that block index stands for. -/
theorem outBlk_G (c : Dev nD) (t : Fin cfg0.N) (r : Fin 128) (l : Fin 512) :
    outBlk (iblk m c 0 t) (iblk m c 1 t) (iblk m c 2 t) (iblk m c 3 t) (iblk m c 4 t)
      (iblk m c 5 t) (iblk m c 6 t) (grid0.coords t) (ix3 0 r l)
      = G m c (ix3 (bOf (grid0.coords t)) (rowOf (grid0.coords t) r) (colOf (gOf (grid0.coords t)) l)) := by
  refine (outBlk_head _ _ _ _ _ _ _ (grid0.coords t) (fun h => qsc m c h * ksc m c h * Ideal.ofBits .f32 0x3DB504F3#32)
    (fun h => m ((c : Thread nD τ).loc main_arg5) (ix1 h)) (fun h a k => m ((c : Thread nD τ).loc main_arg6) (ix3 h a k))
    (fun g o k => m ((c : Thread nD τ).loc main_arg7) (ix3 g o k))
    (fun h n d => m ((c : Thread nD τ).loc main_arg0) (ix4 (bOf (grid0.coords t)) (Fin.ofNat 1024 n) h d))
    (fun h n d => m ((c : Thread nD τ).loc main_arg2) (ix4 (bOf (grid0.coords t)) (Fin.ofNat 1024 n) h d))
    (fun h n d => m ((c : Thread nD τ).loc main_arg4) (ix4 (bOf (grid0.coords t)) (Fin.ofNat 1024 n) h d))
    (blk0 m c t) (blk1 m c t) (blk2 m c t) (blk3 m c t) (blk4 m c t) (blk5 m c t) (blk6 m c t) r l).trans ?_
  exact (result_head
    (fun b s h d => m ((c : Thread nD τ).loc main_arg0) (ix4 b s h d)) (fun h => m ((c : Thread nD τ).loc main_arg1) (ix1 h))
    (fun b s h d => m ((c : Thread nD τ).loc main_arg2) (ix4 b s h d)) (fun h => m ((c : Thread nD τ).loc main_arg3) (ix1 h))
    (fun b s h d => m ((c : Thread nD τ).loc main_arg4) (ix4 b s h d)) (fun h => m ((c : Thread nD τ).loc main_arg5) (ix1 h))
    (fun h a k => m ((c : Thread nD τ).loc main_arg6) (ix3 h a k)) (fun g o k => m ((c : Thread nD τ).loc main_arg7) (ix3 g o k))
    (bOf (grid0.coords t)) (rowOf (grid0.coords t) r) (gOf (grid0.coords t)) l _ rfl).symm

/-- The kernel's array is the result. -/
theorem arr (c : Dev nD) : (dats m 0 c).arrAt 7 cfg0.N = G m c := by
  refine (dats m 0 c).arrAt_eq_of_covers 7 _ (by decide +kernel) fun t _ y => ?_
  blk_simp
  rw [after0_7, outsAt0_eq]
  have hy : (y : S1x128x512.Idx) = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  exact (congrArg _ hy).trans ((outBlk_G m c t (y 1) (y 2)).trans (congrArg (G m c) ((congrArg _ hy).trans (emb7 t (y 1) (y 2))).symm))

end Cert.KernelIdeal.Value
-- ==== Proof.RefBlock.lean ====
module

public import proofs.«01_k».proof.Proof.Gen.ReferenceIdeal.Value
public import Idealize.ShloMosaic.Lib.Pipeline.ValueKit
public import Idealize.ShloMosaic.Lib.Pointwise

/-! What the reference computes, in named steps: the masked and padded logits, the convolution tap by tap, the mixture of
heads, the softmax, the quantiser, the product with the values. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-! ## The convolution -/

/-- The padded logits. -/
abbrev padded (q k : Vec Ideal S2x20x1024x128 .fp8e4m3) (s : Vec Ideal S20 .f32) : FVec Ideal S2x20x1029x1024 .f32 :=
  k0_pay2 q k s

/-- Six rows back, weighted with column tap 0 and summed. -/
def taps0 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 0] t slices_S20x6x11_o0_0_0_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 0] t slices_S20x6x11_o0_1_0_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 0] t slices_S20x6x11_o0_2_0_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 0] t slices_S20x6x11_o0_3_0_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 0] t slices_S20x6x11_o0_4_0_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 0] t slices_S20x6x11_o0_5_0_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 1 and summed. -/
def taps1 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 1] t slices_S20x6x11_o0_0_1_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 1] t slices_S20x6x11_o0_1_1_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 1] t slices_S20x6x11_o0_2_1_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 1] t slices_S20x6x11_o0_3_1_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 1] t slices_S20x6x11_o0_4_1_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 1] t slices_S20x6x11_o0_5_1_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 2 and summed. -/
def taps2 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 2] t slices_S20x6x11_o0_0_2_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 2] t slices_S20x6x11_o0_1_2_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 2] t slices_S20x6x11_o0_2_2_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 2] t slices_S20x6x11_o0_3_2_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 2] t slices_S20x6x11_o0_4_2_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 2] t slices_S20x6x11_o0_5_2_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 3 and summed. -/
def taps3 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 3] t slices_S20x6x11_o0_0_3_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 3] t slices_S20x6x11_o0_1_3_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 3] t slices_S20x6x11_o0_2_3_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 3] t slices_S20x6x11_o0_3_3_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 3] t slices_S20x6x11_o0_4_3_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 3] t slices_S20x6x11_o0_5_3_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 4 and summed. -/
def taps4 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 4] t slices_S20x6x11_o0_0_4_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 4] t slices_S20x6x11_o0_1_4_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 4] t slices_S20x6x11_o0_2_4_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 4] t slices_S20x6x11_o0_3_4_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 4] t slices_S20x6x11_o0_4_4_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 4] t slices_S20x6x11_o0_5_4_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 5 and summed. -/
def taps5 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 5] t slices_S20x6x11_o0_0_5_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 5] t slices_S20x6x11_o0_1_5_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 5] t slices_S20x6x11_o0_2_5_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 5] t slices_S20x6x11_o0_3_5_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 5] t slices_S20x6x11_o0_4_5_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 5] t slices_S20x6x11_o0_5_5_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 6 and summed. -/
def taps6 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 6] t slices_S20x6x11_o0_0_6_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 6] t slices_S20x6x11_o0_1_6_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 6] t slices_S20x6x11_o0_2_6_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 6] t slices_S20x6x11_o0_3_6_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 6] t slices_S20x6x11_o0_4_6_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 6] t slices_S20x6x11_o0_5_6_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 7 and summed. -/
def taps7 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 7] t slices_S20x6x11_o0_0_7_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 7] t slices_S20x6x11_o0_1_7_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 7] t slices_S20x6x11_o0_2_7_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 7] t slices_S20x6x11_o0_3_7_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 7] t slices_S20x6x11_o0_4_7_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 7] t slices_S20x6x11_o0_5_7_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 8 and summed. -/
def taps8 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 8] t slices_S20x6x11_o0_0_8_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 8] t slices_S20x6x11_o0_1_8_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 8] t slices_S20x6x11_o0_2_8_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 8] t slices_S20x6x11_o0_3_8_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 8] t slices_S20x6x11_o0_4_8_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 8] t slices_S20x6x11_o0_5_8_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 9 and summed. -/
def taps9 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 9] t slices_S20x6x11_o0_0_9_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 9] t slices_S20x6x11_o0_1_9_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 9] t slices_S20x6x11_o0_2_9_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 9] t slices_S20x6x11_o0_3_9_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 9] t slices_S20x6x11_o0_4_9_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 9] t slices_S20x6x11_o0_5_9_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- Six rows back, weighted with column tap 10 and summed. -/
def taps10 (t : Vec Ideal S20x6x11 .f32) (x : FVec Ideal S2x20x1029x1024 .f32) : FVec Ideal S2x20x1024x1024 .f32 :=
  (addf (addf (addf (addf (addf (mulf (broadcastTo S2x20x1024x1024 (shapeCast S1x20x1x1 (shapeCast S20 (extractStridedSlice S20x1x1 ![0, 0, 10] t slices_S20x6x11_o0_0_10_S20x1x1) shapeCasts_S20x1x1_S20) shapeCasts_S20_S1x20x1x1) broadcasts_S1x20x1x1_S2x20x1024x1024)
      (extractStridedSlice S2x20x1024x1024 ![0, 0, 5, 0] x slices_S2x20x1029x1024_o0_0_5_0_S2x20x1024x1024))
    (mulf (broadcastTo S2x20x1024x1024 (shapeCast S1x20x1x1 (shapeCast S20 (extractStridedSlice S20x1x1 ![0, 1, 10] t slices_S20x6x11_o0_1_10_S20x1x1) shapeCasts_S20x1x1_S20) shapeCasts_S20_S1x20x1x1) broadcasts_S1x20x1x1_S2x20x1024x1024)
      (extractStridedSlice S2x20x1024x1024 ![0, 0, 4, 0] x slices_S2x20x1029x1024_o0_0_4_0_S2x20x1024x1024)))
    (mulf (broadcastTo S2x20x1024x1024 (shapeCast S1x20x1x1 (shapeCast S20 (extractStridedSlice S20x1x1 ![0, 2, 10] t slices_S20x6x11_o0_2_10_S20x1x1) shapeCasts_S20x1x1_S20) shapeCasts_S20_S1x20x1x1) broadcasts_S1x20x1x1_S2x20x1024x1024)
      (extractStridedSlice S2x20x1024x1024 ![0, 0, 3, 0] x slices_S2x20x1029x1024_o0_0_3_0_S2x20x1024x1024)))
    (mulf (broadcastTo S2x20x1024x1024 (shapeCast S1x20x1x1 (shapeCast S20 (extractStridedSlice S20x1x1 ![0, 3, 10] t slices_S20x6x11_o0_3_10_S20x1x1) shapeCasts_S20x1x1_S20) shapeCasts_S20_S1x20x1x1) broadcasts_S1x20x1x1_S2x20x1024x1024)
      (extractStridedSlice S2x20x1024x1024 ![0, 0, 2, 0] x slices_S2x20x1029x1024_o0_0_2_0_S2x20x1024x1024)))
    (mulf (broadcastTo S2x20x1024x1024 (shapeCast S1x20x1x1 (shapeCast S20 (extractStridedSlice S20x1x1 ![0, 4, 10] t slices_S20x6x11_o0_4_10_S20x1x1) shapeCasts_S20x1x1_S20) shapeCasts_S20_S1x20x1x1) broadcasts_S1x20x1x1_S2x20x1024x1024)
      (extractStridedSlice S2x20x1024x1024 ![0, 0, 1, 0] x slices_S2x20x1029x1024_o0_0_1_0_S2x20x1024x1024)))
    (mulf (broadcastTo S2x20x1024x1024 (shapeCast S1x20x1x1 (shapeCast S20 (extractStridedSlice S20x1x1 ![0, 5, 10] t slices_S20x6x11_o0_5_10_S20x1x1) shapeCasts_S20x1x1_S20) shapeCasts_S20_S1x20x1x1) broadcasts_S1x20x1x1_S2x20x1024x1024)
      (extractStridedSlice S2x20x1024x1024 ![0, 0, 0, 0] x slices_S2x20x1029x1024_o0_0_0_0_S2x20x1024x1024)))

/-- 1 columns to the left. -/
def left1 (x : FVec Ideal S2x20x1024x1024 .f32) : FVec Ideal S2x20x1024x1024 .f32 :=
  concatenate S2x20x1024x1024 3 [⟨S2x20x1024x1023, extractStridedSlice S2x20x1024x1023 ![0, 0, 0, 1] x slices_S2x20x1024x1024_o0_0_0_1_S2x20x1024x1023⟩,
    ⟨S2x20x1024x1, broadcast S2x20x1024x1 (Scalar.sitofp .f32 0#32)⟩] concatenates_S2x20x1024x1023_S2x20x1024x1_S2x20x1024x1024_d3

/-- 1 columns to the right. -/
def right1 (x : FVec Ideal S2x20x1024x1024 .f32) : FVec Ideal S2x20x1024x1024 .f32 :=
  concatenate S2x20x1024x1024 3 [⟨S2x20x1024x1, broadcast S2x20x1024x1 (Scalar.sitofp .f32 0#32)⟩,
    ⟨S2x20x1024x1023, extractStridedSlice S2x20x1024x1023 ![0, 0, 0, 0] x slices_S2x20x1024x1024_o0_0_0_0_S2x20x1024x1023⟩]
    concatenates_S2x20x1024x1_S2x20x1024x1023_S2x20x1024x1024_d3

/-- 2 columns to the left. -/
def left2 (x : FVec Ideal S2x20x1024x1024 .f32) : FVec Ideal S2x20x1024x1024 .f32 :=
  concatenate S2x20x1024x1024 3 [⟨S2x20x1024x1022, extractStridedSlice S2x20x1024x1022 ![0, 0, 0, 2] x slices_S2x20x1024x1024_o0_0_0_2_S2x20x1024x1022⟩,
    ⟨S2x20x1024x2, broadcast S2x20x1024x2 (Scalar.sitofp .f32 0#32)⟩] concatenates_S2x20x1024x1022_S2x20x1024x2_S2x20x1024x1024_d3

/-- 2 columns to the right. -/
def right2 (x : FVec Ideal S2x20x1024x1024 .f32) : FVec Ideal S2x20x1024x1024 .f32 :=
  concatenate S2x20x1024x1024 3 [⟨S2x20x1024x2, broadcast S2x20x1024x2 (Scalar.sitofp .f32 0#32)⟩,
    ⟨S2x20x1024x1022, extractStridedSlice S2x20x1024x1022 ![0, 0, 0, 0] x slices_S2x20x1024x1024_o0_0_0_0_S2x20x1024x1022⟩]
    concatenates_S2x20x1024x2_S2x20x1024x1022_S2x20x1024x1024_d3

/-- 3 columns to the left. -/
def left3 (x : FVec Ideal S2x20x1024x1024 .f32) : FVec Ideal S2x20x1024x1024 .f32 :=
  concatenate S2x20x1024x1024 3 [⟨S2x20x1024x1021, extractStridedSlice S2x20x1024x1021 ![0, 0, 0, 3] x slices_S2x20x1024x1024_o0_0_0_3_S2x20x1024x1021⟩,
    ⟨S2x20x1024x3, broadcast S2x20x1024x3 (Scalar.sitofp .f32 0#32)⟩] concatenates_S2x20x1024x1021_S2x20x1024x3_S2x20x1024x1024_d3

/-- 3 columns to the right. -/
def right3 (x : FVec Ideal S2x20x1024x1024 .f32) : FVec Ideal S2x20x1024x1024 .f32 :=
  concatenate S2x20x1024x1024 3 [⟨S2x20x1024x3, broadcast S2x20x1024x3 (Scalar.sitofp .f32 0#32)⟩,
    ⟨S2x20x1024x1021, extractStridedSlice S2x20x1024x1021 ![0, 0, 0, 0] x slices_S2x20x1024x1024_o0_0_0_0_S2x20x1024x1021⟩]
    concatenates_S2x20x1024x3_S2x20x1024x1021_S2x20x1024x1024_d3

/-- 4 columns to the left. -/
def left4 (x : FVec Ideal S2x20x1024x1024 .f32) : FVec Ideal S2x20x1024x1024 .f32 :=
  concatenate S2x20x1024x1024 3 [⟨S2x20x1024x1020, extractStridedSlice S2x20x1024x1020 ![0, 0, 0, 4] x slices_S2x20x1024x1024_o0_0_0_4_S2x20x1024x1020⟩,
    ⟨S2x20x1024x4, broadcast S2x20x1024x4 (Scalar.sitofp .f32 0#32)⟩] concatenates_S2x20x1024x1020_S2x20x1024x4_S2x20x1024x1024_d3

/-- 4 columns to the right. -/
def right4 (x : FVec Ideal S2x20x1024x1024 .f32) : FVec Ideal S2x20x1024x1024 .f32 :=
  concatenate S2x20x1024x1024 3 [⟨S2x20x1024x4, broadcast S2x20x1024x4 (Scalar.sitofp .f32 0#32)⟩,
    ⟨S2x20x1024x1020, extractStridedSlice S2x20x1024x1020 ![0, 0, 0, 0] x slices_S2x20x1024x1024_o0_0_0_0_S2x20x1024x1020⟩]
    concatenates_S2x20x1024x4_S2x20x1024x1020_S2x20x1024x1024_d3

/-- 5 columns to the left. -/
def left5 (x : FVec Ideal S2x20x1024x1024 .f32) : FVec Ideal S2x20x1024x1024 .f32 :=
  concatenate S2x20x1024x1024 3 [⟨S2x20x1024x1019, extractStridedSlice S2x20x1024x1019 ![0, 0, 0, 5] x slices_S2x20x1024x1024_o0_0_0_5_S2x20x1024x1019⟩,
    ⟨S2x20x1024x5, broadcast S2x20x1024x5 (Scalar.sitofp .f32 0#32)⟩] concatenates_S2x20x1024x1019_S2x20x1024x5_S2x20x1024x1024_d3

/-- 5 columns to the right. -/
def right5 (x : FVec Ideal S2x20x1024x1024 .f32) : FVec Ideal S2x20x1024x1024 .f32 :=
  concatenate S2x20x1024x1024 3 [⟨S2x20x1024x5, broadcast S2x20x1024x5 (Scalar.sitofp .f32 0#32)⟩,
    ⟨S2x20x1024x1019, extractStridedSlice S2x20x1024x1019 ![0, 0, 0, 0] x slices_S2x20x1024x1024_o0_0_0_0_S2x20x1024x1019⟩]
    concatenates_S2x20x1024x5_S2x20x1024x1019_S2x20x1024x1024_d3

/-- The convolution: eleven column taps, from the leftmost to the rightmost. -/
def conv (t : Vec Ideal S20x6x11 .f32) (x : FVec Ideal S2x20x1029x1024 .f32) : FVec Ideal S2x20x1024x1024 .f32 :=
  (addf (addf (addf (addf (addf (addf (addf (addf (addf (addf (left5 (taps0 t x)) (left4 (taps1 t x))) (left3 (taps2 t x))) (left2 (taps3 t x))) (left1 (taps4 t x))) (taps5 t x)) (right1 (taps6 t x))) (right2 (taps7 t x))) (right3 (taps8 t x))) (right4 (taps9 t x))) (right5 (taps10 t x)))

/-! ## The mixture of heads -/

/-- Head 0's term of the mixture. -/
def mix0 (w : Vec Ideal S5x4x4 .f32) (x : FVec Ideal S2x20x1024x1024 .f32) : FVec Ideal S2x5x4x1024x1024 .f32 :=
  mulf (broadcastTo S2x5x4x1024x1024 (shapeCast S1x5x4x1x1 (shapeCast S5x4 (extractStridedSlice S5x4x1 ![0, 0, 0] w slices_S5x4x4_o0_0_0_S5x4x1)
      shapeCasts_S5x4x1_S5x4) shapeCasts_S5x4_S1x5x4x1x1) broadcasts_S1x5x4x1x1_S2x5x4x1024x1024)
    (broadcastTo S2x5x4x1024x1024 (shapeCast S2x5x1x1024x1024 (shapeCast S2x5x1024x1024
      (extractStridedSlice S2x5x1x1024x1024 ![0, 0, 0, 0, 0] (shapeCast S2x5x4x1024x1024 x shapeCasts_S2x20x1024x1024_S2x5x4x1024x1024)
        slices_S2x5x4x1024x1024_o0_0_0_0_0_S2x5x1x1024x1024) shapeCasts_S2x5x1x1024x1024_S2x5x1024x1024)
      shapeCasts_S2x5x1024x1024_S2x5x1x1024x1024) broadcasts_S2x5x1x1024x1024_S2x5x4x1024x1024)

/-- Head 1's term of the mixture. -/
def mix1 (w : Vec Ideal S5x4x4 .f32) (x : FVec Ideal S2x20x1024x1024 .f32) : FVec Ideal S2x5x4x1024x1024 .f32 :=
  mulf (broadcastTo S2x5x4x1024x1024 (shapeCast S1x5x4x1x1 (shapeCast S5x4 (extractStridedSlice S5x4x1 ![0, 0, 1] w slices_S5x4x4_o0_0_1_S5x4x1)
      shapeCasts_S5x4x1_S5x4) shapeCasts_S5x4_S1x5x4x1x1) broadcasts_S1x5x4x1x1_S2x5x4x1024x1024)
    (broadcastTo S2x5x4x1024x1024 (shapeCast S2x5x1x1024x1024 (shapeCast S2x5x1024x1024
      (extractStridedSlice S2x5x1x1024x1024 ![0, 0, 1, 0, 0] (shapeCast S2x5x4x1024x1024 x shapeCasts_S2x20x1024x1024_S2x5x4x1024x1024)
        slices_S2x5x4x1024x1024_o0_0_1_0_0_S2x5x1x1024x1024) shapeCasts_S2x5x1x1024x1024_S2x5x1024x1024)
      shapeCasts_S2x5x1024x1024_S2x5x1x1024x1024) broadcasts_S2x5x1x1024x1024_S2x5x4x1024x1024)

/-- Head 2's term of the mixture. -/
def mix2 (w : Vec Ideal S5x4x4 .f32) (x : FVec Ideal S2x20x1024x1024 .f32) : FVec Ideal S2x5x4x1024x1024 .f32 :=
  mulf (broadcastTo S2x5x4x1024x1024 (shapeCast S1x5x4x1x1 (shapeCast S5x4 (extractStridedSlice S5x4x1 ![0, 0, 2] w slices_S5x4x4_o0_0_2_S5x4x1)
      shapeCasts_S5x4x1_S5x4) shapeCasts_S5x4_S1x5x4x1x1) broadcasts_S1x5x4x1x1_S2x5x4x1024x1024)
    (broadcastTo S2x5x4x1024x1024 (shapeCast S2x5x1x1024x1024 (shapeCast S2x5x1024x1024
      (extractStridedSlice S2x5x1x1024x1024 ![0, 0, 2, 0, 0] (shapeCast S2x5x4x1024x1024 x shapeCasts_S2x20x1024x1024_S2x5x4x1024x1024)
        slices_S2x5x4x1024x1024_o0_0_2_0_0_S2x5x1x1024x1024) shapeCasts_S2x5x1x1024x1024_S2x5x1024x1024)
      shapeCasts_S2x5x1024x1024_S2x5x1x1024x1024) broadcasts_S2x5x1x1024x1024_S2x5x4x1024x1024)

/-- Head 3's term of the mixture. -/
def mix3 (w : Vec Ideal S5x4x4 .f32) (x : FVec Ideal S2x20x1024x1024 .f32) : FVec Ideal S2x5x4x1024x1024 .f32 :=
  mulf (broadcastTo S2x5x4x1024x1024 (shapeCast S1x5x4x1x1 (shapeCast S5x4 (extractStridedSlice S5x4x1 ![0, 0, 3] w slices_S5x4x4_o0_0_3_S5x4x1)
      shapeCasts_S5x4x1_S5x4) shapeCasts_S5x4_S1x5x4x1x1) broadcasts_S1x5x4x1x1_S2x5x4x1024x1024)
    (broadcastTo S2x5x4x1024x1024 (shapeCast S2x5x1x1024x1024 (shapeCast S2x5x1024x1024
      (extractStridedSlice S2x5x1x1024x1024 ![0, 0, 3, 0, 0] (shapeCast S2x5x4x1024x1024 x shapeCasts_S2x20x1024x1024_S2x5x4x1024x1024)
        slices_S2x5x4x1024x1024_o0_0_3_0_0_S2x5x1x1024x1024) shapeCasts_S2x5x1x1024x1024_S2x5x1024x1024)
      shapeCasts_S2x5x1024x1024_S2x5x1x1024x1024) broadcasts_S2x5x1x1024x1024_S2x5x4x1024x1024)

/-- The mixture of four heads. -/
def mix (w : Vec Ideal S5x4x4 .f32) (x : FVec Ideal S2x20x1024x1024 .f32) : FVec Ideal S2x20x1024x1024 .f32 :=
  shapeCast S2x20x1024x1024 (addf (addf (addf (mix0 w x) (mix1 w x)) (mix2 w x)) (mix3 w x))
    shapeCasts_S2x5x4x1024x1024_S2x20x1024x1024

/-- The causal mask of the mixed logits. -/
def masked (x : FVec Ideal S2x20x1024x1024 .f32) : FVec Ideal S2x20x1024x1024 .f32 :=
  select (broadcastTo S2x20x1024x1024 (shapeCast S1x1x1024x1024 (cmpi .sle (iota .tc S1x1x1024x1024 32 [3] iota_S1x1x1024x1024_d3_w32)
      (iota .tc S1x1x1024x1024 32 [2] iota_S1x1x1024x1024_d2_w32)) shapeCasts_S1x1x1024x1024_S1x1x1024x1024)
      broadcasts_S1x1x1024x1024_S2x20x1024x1024) x (broadcast S2x20x1024x1024 (Scalar.ofBits .f32 0xFF800000#32))

/-! ## The softmax -/

/-- The exponentials of a row less its maximum. -/
def expv (x : FVec Ideal S2x20x1024x1024 .f32) : FVec Ideal S2x20x1024x1024 .f32 :=
  exp (subf x (broadcastTo S2x20x1024x1024 (shapeCast S2x20x1024x1
    (maximumf (broadcast S2x20x1024 (Scalar.ofBits .f32 0xFF800000#32))
      (multiReduction .maximumf [3] S2x20x1024 x 0xFF800000#32 reduces_S2x20x1024x1024_S2x20x1024 (.inl rfl) rfl))
    shapeCasts_S2x20x1024_S2x20x1024x1) broadcasts_S2x20x1024x1_S2x20x1024x1024))

/-- The softmax. -/
def softmax (x : FVec Ideal S2x20x1024x1024 .f32) : FVec Ideal S2x20x1024x1024 .f32 :=
  divf (expv x) (broadcastTo S2x20x1024x1024 (shapeCast S2x20x1024x1
    (multiReduction .add [3] S2x20x1024 (expv x) 0x00000000#32 reduces_S2x20x1024x1024_S2x20x1024 (.inl rfl) rfl)
    shapeCasts_S2x20x1024_S2x20x1024x1) broadcasts_S2x20x1024x1_S2x20x1024x1024)

/-! ## The quantiser and the product -/

/-- The greatest probability of a row, over 448. -/
def rowMax (p : FVec Ideal S2x20x1024x1024 .f32) : FVec Ideal S2x20x1024x1 .f32 :=
  mulf (shapeCast S2x20x1024x1
    (multiReduction .maximumf [3] S2x20x1024 p 0xFF800000#32 reduces_S2x20x1024x1024_S2x20x1024 (.inl rfl) rfl)
    shapeCasts_S2x20x1024_S2x20x1024x1) (broadcast S2x20x1024x1 (Scalar.ofBits .f32 0x3B124925#32))

/-- The exponent of each row. -/
def expov (y : FVec Ideal S2x20x1024x1 .f32) : FVec Ideal S2x20x1024x1 .f32 :=
  addf (floor (divf (log (maximumf y (broadcast S2x20x1024x1 (Scalar.ofBits .f32 0x00400000#32))))
    (broadcast S2x20x1024x1 (Scalar.log (Scalar.ofBits (F := Ideal) .f32 0x40000000#32)))))
    (broadcast S2x20x1024x1 (Scalar.ofBits .f32 0x3F800000#32))

/-- The codes of the probabilities. -/
def codes (p : FVec Ideal S2x20x1024x1024 .f32) (e : FVec Ideal S2x20x1024x1 .f32) : FVec Ideal S2x20x1024x1024 .fp8e4m3 :=
  truncf .fp8e4m3 (minimumf (broadcast S2x20x1024x1024 (Scalar.ofBits .f32 0x43E00000#32))
    (maximumf (broadcast S2x20x1024x1024 (Scalar.ofBits .f32 0xC3E00000#32))
      (mulf p (broadcastTo S2x20x1024x1024 (exp2 (subf (broadcast S2x20x1024x1 (Scalar.ofBits .f32 0x00000000#32)) e))
        broadcasts_S2x20x1024x1_S2x20x1024x1024)))) bitsLt_fp8e4m3_f32

/-- The product with the values, scaled back. -/
def outv (p : FVec Ideal S2x20x1024x1024 .f32) (v : Vec Ideal S2x20x1024x128 .fp8e4m3) : FVec Ideal S2x20x1024x128 .f32 :=
  mulf (shapeCast S2x20x1024x128 (matmul (φ₁ := .fp8e4m3) (φ₂ := .fp8e4m3) dot_S40x1024x1024_S40x1024x128_S40x1024x128_2_1_1_2_0_0 none
      (shapeCast S40x1024x1024 (codes p (expov (rowMax p))) shapeCasts_S2x20x1024x1024_S40x1024x1024)
      (shapeCast S40x1024x128 (shapeCast S2x20x1024x128 v shapeCasts_S2x20x1024x128_S2x20x1024x128) shapeCasts_S2x20x1024x128_S40x1024x128)
      (constant S40x1024x128 .f32 0x00000000#32)) shapeCasts_S40x1024x128_S2x20x1024x128)
    (broadcastTo S2x20x1024x128 (exp2 (expov (rowMax p))) broadcasts_S2x20x1024x1_S2x20x1024x128)

/-- The whole computation. -/
def outR (X0 X1 X2 : Vec Ideal S2x20x1024x128 .fp8e4m3) (X3 X4 : Vec Ideal S20 .f32) (X5 : Vec Ideal S20x6x11 .f32)
    (X6 : Vec Ideal S5x4x4 .f32) : FVec Ideal S2x1024x2560 .bf16 :=
  k0_pay1 (outv (softmax (masked (mix X6 (conv X5 (padded X0 X1 X3))))) X2) X4

end Cert.ReferenceIdeal.Block
-- ==== Proof.RefStages.lean ====
module

public import proofs.«01_k».proof.Proof.RefBlock

/-! The reference's computation, part by part, as the named steps of `RefBlock`. -/

@[expose] public section

set_option maxRecDepth 16384

noncomputable section

namespace Cert.ReferenceIdeal.Block

open Cert.ReferenceIdeal Cert.ReferenceIdeal.Gen Cert.ReferenceIdeal.Block Idealize.ShloMosaic Idealize.ShloMosaic.TcCoe Idealize.SL.Sem

/-- The first column tap. -/
theorem stage6 (t : Vec Ideal S20x6x11 .f32) (q k : Vec Ideal S2x20x1024x128 .fp8e4m3) (s : Vec Ideal S20 .f32) :
    k0_pay6 t (k0_pay2 q k s) (k0_pay3 t q k s) (k0_pay4 t) (k0_pay5 q k s) = left5 (taps0 t (k0_pay2 q k s)) := by
  unfold k0_pay3 k0_pay5
  generalize k0_pay2 q k s = p
  rfl

/-- The second column tap. -/
theorem stage10 (t : Vec Ideal S20x6x11 .f32) (p : FVec Ideal S2x20x1029x1024 .f32) (a : FVec Ideal S2x20x1024x1024 .f32) :
    k0_pay10 t p a (k0_pay7 t p) (k0_pay8 t) (k0_pay9 p) = addf a (left4 (taps1 t p)) := rfl

/-- The third and fourth column taps. -/
theorem stage13 (t : Vec Ideal S20x6x11 .f32) (p : FVec Ideal S2x20x1029x1024 .f32) (a : FVec Ideal S2x20x1024x1024 .f32) :
    k0_pay13 t p a (k0_pay11 t p) k0_pay12 = addf (addf a (left3 (taps2 t p))) (left2 (taps3 t p)) := rfl

/-- The fifth column tap. -/
theorem stage17 (t : Vec Ideal S20x6x11 .f32) (p : FVec Ideal S2x20x1029x1024 .f32) (a : FVec Ideal S2x20x1024x1024 .f32) :
    k0_pay17 t p a (k0_pay14 t p) (k0_pay15 t) (k0_pay16 p) = addf a (left1 (taps4 t p)) := rfl

/-- The sixth column tap. -/
theorem stage20 (t : Vec Ideal S20x6x11 .f32) (p : FVec Ideal S2x20x1029x1024 .f32) (a : FVec Ideal S2x20x1024x1024 .f32) :
    k0_pay20 t p a (k0_pay18 t p) (k0_pay19 t) = addf a (taps5 t p) := rfl

/-- The seventh and eighth column taps. -/
theorem stage22 (t : Vec Ideal S20x6x11 .f32) (p : FVec Ideal S2x20x1029x1024 .f32) (a : FVec Ideal S2x20x1024x1024 .f32) :
    k0_pay22 t p a (k0_pay21 t p) = addf (addf a (right1 (taps6 t p))) (right2 (taps7 t p)) := rfl

/-- The ninth column tap. -/
theorem stage25 (t : Vec Ideal S20x6x11 .f32) (p : FVec Ideal S2x20x1029x1024 .f32) (a : FVec Ideal S2x20x1024x1024 .f32) :
    k0_pay25 t p a (k0_pay23 t p) (k0_pay24 t) = addf a (right3 (taps8 t p)) := rfl

/-- The tenth column tap. -/
theorem stage27 (t : Vec Ideal S20x6x11 .f32) (p : FVec Ideal S2x20x1029x1024 .f32) (a : FVec Ideal S2x20x1024x1024 .f32) :
    k0_pay27 t p a (k0_pay26 t p) = addf a (right4 (taps9 t p)) := rfl

/-- The last column tap and the mixture of heads. -/
theorem stage30 (t : Vec Ideal S20x6x11 .f32) (w : Vec Ideal S5x4x4 .f32) (p : FVec Ideal S2x20x1029x1024 .f32)
    (a : FVec Ideal S2x20x1024x1024 .f32) :
    k0_pay30 t w p a (k0_pay28 t p) (k0_pay29 t p) = mix w (addf a (right5 (taps10 t p))) := rfl

/-- The mask, the softmax, the quantiser and the product. -/
theorem stage33 (y : FVec Ideal S2x20x1024x1024 .f32) (v : Vec Ideal S2x20x1024x128 .fp8e4m3) :
    k0_pay33 y (k0_pay31 (iota .tc S1x1x1024x1024 32 [2] iota_S1x1x1024x1024_d2_w32) (iota .tc S1x1x1024x1024 32 [3] iota_S1x1x1024x1024_d3_w32))
      k0_pay32 v = outv (softmax (masked y)) v := rfl

end Cert.ReferenceIdeal.Block
-- ==== Proof.RefPoint.lean ====
module

public import proofs.«01_k».proof.Proof.RefStages

/-! What the reference leaves in its output array: the named steps of `RefBlock` on its arguments. -/

@[expose] public section

set_option maxRecDepth 16384

noncomputable section

namespace Cert.ReferenceIdeal.Value

open Cert.ReferenceIdeal Cert.ReferenceIdeal.Gen Cert.ReferenceIdeal.Block Idealize.ShloMosaic Idealize.ShloMosaic.TcCoe Idealize.SL.Sem

/-- The padded logits, from the whole arguments. -/
theorem pay34_eq (x0 x1 x2 : Vec Ideal S2x20x1024x128 .fp8e4m3) (x3 x4 : Vec Ideal S20 .f32) (x5 : Vec Ideal S20x6x11 .f32)
    (x6 : Vec Ideal S5x4x4 .f32) : k0_pay34 x0 x1 x2 x3 x4 x5 x6 = k0_pay2 x0 x1 x3 := by
  unfold k0_pay34
  rw [View.ld_unit_lit _ x0 (by decide), View.ld_unit_lit _ x1 (by decide), View.ld_unit_lit _ x3 (by decide)]

/-- The output is the named computation. -/
theorem out0_7_eq (x0 x1 x2 : Vec Ideal S2x20x1024x128 .fp8e4m3) (x3 x4 : Vec Ideal S20 .f32) (x5 : Vec Ideal S20x6x11 .f32)
    (x6 : Vec Ideal S5x4x4 .f32) : out0_7 x0 x1 x2 x3 x4 x5 x6 = outR x0 x1 x2 x3 x4 x5 x6 := by
  frame_out
  rw [pay34_eq, stage6, stage10, stage13, stage17, stage20, stage22, stage25, stage27, stage30, stage33]
  rfl

end Cert.ReferenceIdeal.Value
-- ==== Proof.RefLogits.lean ====
module

public import proofs.«01_k».proof.Proof.RefBlock
public import proofs.«01_k».proof.Proof.Spec

/-! The reference's padded logits read at one index, down to arithmetic on extended reals. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- A small number as a signed word is itself. -/
theorem toInt_ofNat {n : ℕ} (h : n < 2 ^ 31) : (BitVec.ofNat 32 n).toInt = n := by
  rw [BitVec.toInt_eq_toNat_bmod, BitVec.toNat_ofNat, Int.bmod_def]; omega

/-- A choice between two numbers by a comparison bit. -/
theorem select_iff {c : BitVec 1} {p : Prop} [Decidable p] (h : c = 1#1 ↔ p) (a b : EReal) :
    Scalar.select c a b = if p then a else b := by
  unfold Scalar.select
  by_cases hp : p
  · exact (if_pos (h.2 hp)).trans (if_pos hp).symm
  · exact (if_neg (fun hc => hp (h.1 hc))).trans (if_neg hp).symm

/-- The integer zero as a float. -/
theorem zero_cast : (((0#32 : BitVec 32).toInt : ℝ) : EReal) = 0 := by
  rw [show (0#32 : BitVec 32).toInt = 0 from rfl, Int.cast_zero, EReal.coe_zero]

/-- A padded logit: the scaled product of a query row and a key row where the key is not after the query, else zero. -/
theorem padded_at (q k : Vec Ideal S2x20x1024x128 .fp8e4m3) (s : Vec Ideal S20 .f32) (b : Fin 2) (h : Fin 20) (r : Fin 1029)
    (j : Fin 1024) : padded q k s (ix4 b h r j) = Spec.logit (fun n d => q (ix4 b h (Fin.ofNat 1024 n) d))
      (fun n d => k (ix4 b h (Fin.ofNat 1024 n) d)) (s (ix1 h)) r.val j.val := by
  have hr := r.isLt
  have hj := j.isLt
  unfold Spec.logit
  pointwise [k0_pay2]
  by_cases h5 : r.val < 5
  · exact (dif_pos h5).trans (zero_cast.trans (if_neg (show ¬ (j.val + 5 ≤ r.val) by omega)).symm)
  · refine (dif_neg h5).trans ((select_iff (p := j.val + 5 ≤ r.val) ?_ _ _).trans ?_)
    · rw [IntOp.cmpi_sle, toInt_ofNat (by omega), toInt_ofNat (by omega)]
      omega
    · by_cases hc : j.val + 5 ≤ r.val
      · refine (if_pos hc).trans (Eq.trans ?_ (if_pos hc).symm)
        refine congrArg (· * _) (Finset.sum_congr rfl fun d _ => congrArg₂ (fun a c => q (ix4 b h a d) * k (ix4 b h c d)) ?_ ?_)
        · exact Fin.ext (by show r.val - 5 = (r.val - 5) % 1024; omega)
        · exact Fin.ext (by show j.val = j.val % 1024; omega)
      · exact (if_neg hc).trans (if_neg hc).symm

end Cert.ReferenceIdeal.Block
-- ==== Proof.RefConv.lean ====
module

public import proofs.«01_k».proof.Proof.RefLogits

/-! The reference's convolution read at one index, down to arithmetic on extended reals. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- The weighted sum of six rows, for column tap 0. -/
theorem taps0_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps0 t x (ix4 b h i j) = Spec.taps (fun a => t (ix3 h a 0)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps0, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 1. -/
theorem taps1_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps1 t x (ix4 b h i j) = Spec.taps (fun a => t (ix3 h a 1)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps1, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 2. -/
theorem taps2_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps2 t x (ix4 b h i j) = Spec.taps (fun a => t (ix3 h a 2)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps2, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 3. -/
theorem taps3_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps3 t x (ix4 b h i j) = Spec.taps (fun a => t (ix3 h a 3)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps3, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 4. -/
theorem taps4_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps4 t x (ix4 b h i j) = Spec.taps (fun a => t (ix3 h a 4)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps4, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 5. -/
theorem taps5_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps5 t x (ix4 b h i j) = Spec.taps (fun a => t (ix3 h a 5)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps5, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 6. -/
theorem taps6_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps6 t x (ix4 b h i j) = Spec.taps (fun a => t (ix3 h a 6)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps6, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 7. -/
theorem taps7_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps7 t x (ix4 b h i j) = Spec.taps (fun a => t (ix3 h a 7)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps7, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 8. -/
theorem taps8_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps8 t x (ix4 b h i j) = Spec.taps (fun a => t (ix3 h a 8)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps8, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 9. -/
theorem taps9_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps9 t x (ix4 b h i j) = Spec.taps (fun a => t (ix3 h a 9)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps9, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- The weighted sum of six rows, for column tap 10. -/
theorem taps10_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    taps10 t x (ix4 b h i j) = Spec.taps (fun a => t (ix3 h a 10)) f i.val j.val := by
  have hi := i.isLt
  have e : ∀ (n : ℕ) (hn : n + i.val < 1029), x (ix4 b h ⟨n + i.val, hn⟩ j) = f (i.val + n) j.val := fun n hn =>
    (hf _ _).trans (congrArg (f · j.val) (Nat.add_comm n i.val))
  have e0 : x (ix4 b h ⟨i.val, by omega⟩ j) = f i.val j.val := hf _ _
  pointwise [taps10, Spec.taps]
  exact congrArg₂ _ (congrArg₂ _ (congrArg₂ _ (congrArg₂ _ (congrArg₂ _ (congrArg _ (e 5 (by omega))) (congrArg _ (e 4 (by omega)))) (congrArg _ (e 3 (by omega)))) (congrArg _ (e 2 (by omega)))) (congrArg _ (e 1 (by omega)))) (congrArg _ e0)

/-- 1 columns to the left. -/
theorem left1_at (x : FVec Ideal S2x20x1024x1024 .f32) (b : Fin 2) (h : Fin 20) (i : Fin 1024) (g : ℕ → EReal)
    (hg : ∀ j : Fin 1024, x (ix4 b h i j) = g j.val) (j : Fin 1024) : left1 x (ix4 b h i j) = Spec.left 1 g j.val := by
  have hj := j.isLt
  unfold Spec.left
  pointwise [left1]
  by_cases hc : j.val < 1023
  · refine (dif_pos hc).trans (Eq.trans ?_ (if_pos (show j.val + 1 < 1024 by omega)).symm)
    exact (hg _).trans (congrArg g (Nat.add_comm 1 j.val))
  · exact (dif_neg hc).trans (zero_cast.trans (if_neg (show ¬ j.val + 1 < 1024 by omega)).symm)

/-- 1 columns to the right. -/
theorem right1_at (x : FVec Ideal S2x20x1024x1024 .f32) (b : Fin 2) (h : Fin 20) (i : Fin 1024) (g : ℕ → EReal)
    (hg : ∀ j : Fin 1024, x (ix4 b h i j) = g j.val) (j : Fin 1024) : right1 x (ix4 b h i j) = Spec.right 1 g j.val := by
  have hj := j.isLt
  unfold Spec.right
  pointwise [right1]
  by_cases hc : j.val < 1
  · exact (dif_pos hc).trans (zero_cast.trans (if_neg (show ¬ 1 ≤ j.val by omega)).symm)
  · exact (dif_neg hc).trans ((hg _).trans (if_pos (show 1 ≤ j.val by omega)).symm)

/-- 2 columns to the left. -/
theorem left2_at (x : FVec Ideal S2x20x1024x1024 .f32) (b : Fin 2) (h : Fin 20) (i : Fin 1024) (g : ℕ → EReal)
    (hg : ∀ j : Fin 1024, x (ix4 b h i j) = g j.val) (j : Fin 1024) : left2 x (ix4 b h i j) = Spec.left 2 g j.val := by
  have hj := j.isLt
  unfold Spec.left
  pointwise [left2]
  by_cases hc : j.val < 1022
  · refine (dif_pos hc).trans (Eq.trans ?_ (if_pos (show j.val + 2 < 1024 by omega)).symm)
    exact (hg _).trans (congrArg g (Nat.add_comm 2 j.val))
  · exact (dif_neg hc).trans (zero_cast.trans (if_neg (show ¬ j.val + 2 < 1024 by omega)).symm)

/-- 2 columns to the right. -/
theorem right2_at (x : FVec Ideal S2x20x1024x1024 .f32) (b : Fin 2) (h : Fin 20) (i : Fin 1024) (g : ℕ → EReal)
    (hg : ∀ j : Fin 1024, x (ix4 b h i j) = g j.val) (j : Fin 1024) : right2 x (ix4 b h i j) = Spec.right 2 g j.val := by
  have hj := j.isLt
  unfold Spec.right
  pointwise [right2]
  by_cases hc : j.val < 2
  · exact (dif_pos hc).trans (zero_cast.trans (if_neg (show ¬ 2 ≤ j.val by omega)).symm)
  · exact (dif_neg hc).trans ((hg _).trans (if_pos (show 2 ≤ j.val by omega)).symm)

/-- 3 columns to the left. -/
theorem left3_at (x : FVec Ideal S2x20x1024x1024 .f32) (b : Fin 2) (h : Fin 20) (i : Fin 1024) (g : ℕ → EReal)
    (hg : ∀ j : Fin 1024, x (ix4 b h i j) = g j.val) (j : Fin 1024) : left3 x (ix4 b h i j) = Spec.left 3 g j.val := by
  have hj := j.isLt
  unfold Spec.left
  pointwise [left3]
  by_cases hc : j.val < 1021
  · refine (dif_pos hc).trans (Eq.trans ?_ (if_pos (show j.val + 3 < 1024 by omega)).symm)
    exact (hg _).trans (congrArg g (Nat.add_comm 3 j.val))
  · exact (dif_neg hc).trans (zero_cast.trans (if_neg (show ¬ j.val + 3 < 1024 by omega)).symm)

/-- 3 columns to the right. -/
theorem right3_at (x : FVec Ideal S2x20x1024x1024 .f32) (b : Fin 2) (h : Fin 20) (i : Fin 1024) (g : ℕ → EReal)
    (hg : ∀ j : Fin 1024, x (ix4 b h i j) = g j.val) (j : Fin 1024) : right3 x (ix4 b h i j) = Spec.right 3 g j.val := by
  have hj := j.isLt
  unfold Spec.right
  pointwise [right3]
  by_cases hc : j.val < 3
  · exact (dif_pos hc).trans (zero_cast.trans (if_neg (show ¬ 3 ≤ j.val by omega)).symm)
  · exact (dif_neg hc).trans ((hg _).trans (if_pos (show 3 ≤ j.val by omega)).symm)

/-- 4 columns to the left. -/
theorem left4_at (x : FVec Ideal S2x20x1024x1024 .f32) (b : Fin 2) (h : Fin 20) (i : Fin 1024) (g : ℕ → EReal)
    (hg : ∀ j : Fin 1024, x (ix4 b h i j) = g j.val) (j : Fin 1024) : left4 x (ix4 b h i j) = Spec.left 4 g j.val := by
  have hj := j.isLt
  unfold Spec.left
  pointwise [left4]
  by_cases hc : j.val < 1020
  · refine (dif_pos hc).trans (Eq.trans ?_ (if_pos (show j.val + 4 < 1024 by omega)).symm)
    exact (hg _).trans (congrArg g (Nat.add_comm 4 j.val))
  · exact (dif_neg hc).trans (zero_cast.trans (if_neg (show ¬ j.val + 4 < 1024 by omega)).symm)

/-- 4 columns to the right. -/
theorem right4_at (x : FVec Ideal S2x20x1024x1024 .f32) (b : Fin 2) (h : Fin 20) (i : Fin 1024) (g : ℕ → EReal)
    (hg : ∀ j : Fin 1024, x (ix4 b h i j) = g j.val) (j : Fin 1024) : right4 x (ix4 b h i j) = Spec.right 4 g j.val := by
  have hj := j.isLt
  unfold Spec.right
  pointwise [right4]
  by_cases hc : j.val < 4
  · exact (dif_pos hc).trans (zero_cast.trans (if_neg (show ¬ 4 ≤ j.val by omega)).symm)
  · exact (dif_neg hc).trans ((hg _).trans (if_pos (show 4 ≤ j.val by omega)).symm)

/-- 5 columns to the left. -/
theorem left5_at (x : FVec Ideal S2x20x1024x1024 .f32) (b : Fin 2) (h : Fin 20) (i : Fin 1024) (g : ℕ → EReal)
    (hg : ∀ j : Fin 1024, x (ix4 b h i j) = g j.val) (j : Fin 1024) : left5 x (ix4 b h i j) = Spec.left 5 g j.val := by
  have hj := j.isLt
  unfold Spec.left
  pointwise [left5]
  by_cases hc : j.val < 1019
  · refine (dif_pos hc).trans (Eq.trans ?_ (if_pos (show j.val + 5 < 1024 by omega)).symm)
    exact (hg _).trans (congrArg g (Nat.add_comm 5 j.val))
  · exact (dif_neg hc).trans (zero_cast.trans (if_neg (show ¬ j.val + 5 < 1024 by omega)).symm)

/-- 5 columns to the right. -/
theorem right5_at (x : FVec Ideal S2x20x1024x1024 .f32) (b : Fin 2) (h : Fin 20) (i : Fin 1024) (g : ℕ → EReal)
    (hg : ∀ j : Fin 1024, x (ix4 b h i j) = g j.val) (j : Fin 1024) : right5 x (ix4 b h i j) = Spec.right 5 g j.val := by
  have hj := j.isLt
  unfold Spec.right
  pointwise [right5]
  by_cases hc : j.val < 5
  · exact (dif_pos hc).trans (zero_cast.trans (if_neg (show ¬ 5 ≤ j.val by omega)).symm)
  · exact (dif_neg hc).trans ((hg _).trans (if_pos (show 5 ≤ j.val by omega)).symm)

/-- The convolution. -/
theorem conv_at (t : Vec Ideal S20x6x11 .f32) (x : FVec Ideal S2x20x1029x1024 .f32) (b : Fin 2) (h : Fin 20) (f : ℕ → ℕ → EReal)
    (hf : ∀ (r : Fin 1029) (j : Fin 1024), x (ix4 b h r j) = f r.val j.val) (i j : Fin 1024) :
    conv t x (ix4 b h i j) = Spec.conv (fun a c => t (ix3 h a c)) f i.val j.val := by
  unfold conv Spec.conv
  show left5 (taps0 t x) (ix4 b h i j)
    + left4 (taps1 t x) (ix4 b h i j)
    + left3 (taps2 t x) (ix4 b h i j)
    + left2 (taps3 t x) (ix4 b h i j)
    + left1 (taps4 t x) (ix4 b h i j)
    + taps5 t x (ix4 b h i j)
    + right1 (taps6 t x) (ix4 b h i j)
    + right2 (taps7 t x) (ix4 b h i j)
    + right3 (taps8 t x) (ix4 b h i j)
    + right4 (taps9 t x) (ix4 b h i j)
    + right5 (taps10 t x) (ix4 b h i j) = _
  rw [left5_at _ b h i _ (taps0_at t x b h f hf i) j, left4_at _ b h i _ (taps1_at t x b h f hf i) j, left3_at _ b h i _ (taps2_at t x b h f hf i) j, left2_at _ b h i _ (taps3_at t x b h f hf i) j, left1_at _ b h i _ (taps4_at t x b h f hf i) j, taps5_at t x b h f hf i j, right1_at _ b h i _ (taps6_at t x b h f hf i) j, right2_at _ b h i _ (taps7_at t x b h f hf i) j, right3_at _ b h i _ (taps8_at t x b h f hf i) j, right4_at _ b h i _ (taps9_at t x b h f hf i) j, right5_at _ b h i _ (taps10_at t x b h f hf i) j]

end Cert.ReferenceIdeal.Block
-- ==== Proof.RefSoftmax.lean ====
module

public import proofs.«01_k».proof.Proof.RefBlock
public import proofs.«01_k».proof.Proof.Spec

/-! The reference's softmax and row maximum read at one index, down to arithmetic on extended reals. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-! ## Reductions along the last of four axes -/

/-- A maximum along the last axis. -/
theorem max_last (n0 n1 n2 n3 : ℕ) (v : FVec Ideal ⟨4, ![n0, n1, n2, n3]⟩ .f32) (acc : BitVec 32)
    (h : (⟨4, ![n0, n1, n2, n3]⟩ : Shape).Reduces [3] ⟨3, ![n0, n1, n2]⟩) (hφ : FKind.Formats .f32)
    (hacc : acc = FKind.maximumf.neutral .f32 hφ) (a : Fin n0) (b : Fin n1) (c : Fin n2) :
    multiReduction .maximumf [3] ⟨3, ![n0, n1, n2]⟩ v acc h hφ hacc (ix3 a b c)
      = (Finset.univ : Finset (Fin n3)).fold max (FloatOps.ofBits (F := Ideal) .f32 acc) fun k => v (ix4 a b c k) := by
  rw [Ideal.multiReduction_maximumf_single]
  refine congrArg (fun g => Finset.fold max _ g _) (funext fun k => congrArg v ?_)
  funext d
  match d with
  | ⟨0, _⟩ => rfl
  | ⟨1, _⟩ => rfl
  | ⟨2, _⟩ => rfl
  | ⟨3, _⟩ => rfl

/-- A sum along the last axis. -/
theorem add_last (n0 n1 n2 n3 : ℕ) (v : FVec Ideal ⟨4, ![n0, n1, n2, n3]⟩ .f32) (acc : BitVec 32)
    (h : (⟨4, ![n0, n1, n2, n3]⟩ : Shape).Reduces [3] ⟨3, ![n0, n1, n2]⟩) (hφ : FKind.Formats .f32)
    (hacc : acc = FKind.add.neutral .f32 hφ) (a : Fin n0) (b : Fin n1) (c : Fin n2) :
    multiReduction .add [3] ⟨3, ![n0, n1, n2]⟩ v acc h hφ hacc (ix3 a b c) = ∑ k : Fin n3, v (ix4 a b c k) := by
  rw [Ideal.multiReduction_add_single]
  refine Finset.sum_congr rfl fun k _ => congrArg v ?_
  funext d
  match d with
  | ⟨0, _⟩ => rfl
  | ⟨1, _⟩ => rfl
  | ⟨2, _⟩ => rfl
  | ⟨3, _⟩ => rfl

/-- The maximum of each row. -/
def rowTop (x : FVec Ideal S2x20x1024x1024 .f32) : FVec Ideal S2x20x1024 .f32 :=
  multiReduction .maximumf [3] S2x20x1024 x 0xFF800000#32 reduces_S2x20x1024x1024_S2x20x1024 (.inl rfl) rfl

/-- The sum of each row. -/
def rowSum (x : FVec Ideal S2x20x1024x1024 .f32) : FVec Ideal S2x20x1024 .f32 :=
  multiReduction .add [3] S2x20x1024 x 0x00000000#32 reduces_S2x20x1024x1024_S2x20x1024 (.inl rfl) rfl

/-- The greatest entry of a row. -/
theorem rowTop_at (x : FVec Ideal S2x20x1024x1024 .f32) (b : Fin 2) (h : Fin 20) (i : Fin 1024) :
    rowTop x (ix3 b h i) = Spec.top fun k => x (ix4 b h i k) :=
  (max_last 2 20 1024 1024 x _ _ _ _ b h i).trans (congrArg (fun z => Finset.fold max z _ _) Consts.ofBits_bot)

/-- The sum of a row. -/
theorem rowSum_at (x : FVec Ideal S2x20x1024x1024 .f32) (b : Fin 2) (h : Fin 20) (i : Fin 1024) :
    rowSum x (ix3 b h i) = ∑ k, x (ix4 b h i k) :=
  add_last 2 20 1024 1024 x _ _ _ _ b h i

/-- The exponentials, over the named row maximum. -/
def expw (x : FVec Ideal S2x20x1024x1024 .f32) (t : FVec Ideal S2x20x1024 .f32) : FVec Ideal S2x20x1024x1024 .f32 :=
  exp (subf x (broadcastTo S2x20x1024x1024 (shapeCast S2x20x1024x1
    (maximumf (broadcast S2x20x1024 (Scalar.ofBits .f32 0xFF800000#32)) t)
    shapeCasts_S2x20x1024_S2x20x1024x1) broadcasts_S2x20x1024x1_S2x20x1024x1024))

/-- The exponentials, with the row's maximum named. -/
theorem expv_eq (x : FVec Ideal S2x20x1024x1024 .f32) : expv x = expw x (rowTop x) := rfl

/-- A quotient by a number of each row. -/
def quot (x : FVec Ideal S2x20x1024x1024 .f32) (t : FVec Ideal S2x20x1024 .f32) : FVec Ideal S2x20x1024x1024 .f32 :=
  divf x (broadcastTo S2x20x1024x1024 (shapeCast S2x20x1024x1 t
    shapeCasts_S2x20x1024_S2x20x1024x1) broadcasts_S2x20x1024x1_S2x20x1024x1024)

/-- The softmax as a quotient of the exponentials by their sum. -/
theorem softmax_eq (x : FVec Ideal S2x20x1024x1024 .f32) : softmax x = quot (expv x) (rowSum (expv x)) := rfl

/-- A number of each row over 448. -/
def over448 (t : FVec Ideal S2x20x1024 .f32) : FVec Ideal S2x20x1024x1 .f32 :=
  mulf (shapeCast S2x20x1024x1 t shapeCasts_S2x20x1024_S2x20x1024x1) (broadcast S2x20x1024x1 (Scalar.ofBits .f32 0x3B124925#32))

/-- The number the quantiser measures a row by, with the row's maximum named. -/
theorem rowMax_eq (p : FVec Ideal S2x20x1024x1024 .f32) : rowMax p = over448 (rowTop p) := rfl

/-! ## The softmax -/

/-- An exponential less a number of its row. -/
theorem expw_at (x : FVec Ideal S2x20x1024x1024 .f32) (t : FVec Ideal S2x20x1024 .f32) (b : Fin 2) (h : Fin 20) (i j : Fin 1024) :
    expw x t (ix4 b h i j) = Ideal.exp (x (ix4 b h i j) - max ⊥ (t (ix3 b h i))) := by
  pointwise [expw]
  rw [Consts.ofBits_bot]

/-- A quotient by a number of its row. -/
theorem quot_at (x : FVec Ideal S2x20x1024x1024 .f32) (t : FVec Ideal S2x20x1024 .f32) (b : Fin 2) (h : Fin 20) (i j : Fin 1024) :
    quot x t (ix4 b h i j) = Ideal.div (x (ix4 b h i j)) (t (ix3 b h i)) := by
  pointwise [quot]

/-- A number of a row over 448. -/
theorem over448_at (t : FVec Ideal S2x20x1024 .f32) (b : Fin 2) (h : Fin 20) (i : Fin 1024) :
    over448 t (ix4 b h i 0) = t (ix3 b h i) * Ideal.ofBits .f32 0x3B124925#32 := by
  pointwise [over448]

/-- An exponential less its row's maximum. -/
theorem expv_at (x : FVec Ideal S2x20x1024x1024 .f32) (b : Fin 2) (h : Fin 20) (i j : Fin 1024) :
    expv x (ix4 b h i j) = Ideal.exp (x (ix4 b h i j) - Spec.top fun k => x (ix4 b h i k)) := by
  rw [expv_eq, expw_at, rowTop_at, max_eq_right bot_le]

/-- The softmax of a row. -/
theorem softmax_at (x : FVec Ideal S2x20x1024x1024 .f32) (b : Fin 2) (h : Fin 20) (i j : Fin 1024) :
    softmax x (ix4 b h i j) = Spec.prob (fun k => x (ix4 b h i k)) j := by
  rw [softmax_eq, quot_at, rowSum_at, expv_at]
  exact congrArg _ (Finset.sum_congr rfl fun k _ => expv_at x b h i k)

/-- A row's greatest probability over the greatest code. -/
theorem rowMax_at (x : FVec Ideal S2x20x1024x1024 .f32) (b : Fin 2) (h : Fin 20) (i : Fin 1024) :
    rowMax (softmax x) (ix4 b h i 0) = Spec.amax (fun k => x (ix4 b h i k)) := by
  rw [rowMax_eq, over448_at, rowTop_at]
  exact congrArg (· * _) (congrArg Spec.top (funext fun k => softmax_at x b h i k))

end Cert.ReferenceIdeal.Block
-- ==== Proof.RefMix.lean ====
module

public import proofs.«01_k».proof.Proof.RefLogits
public import proofs.«01_k».proof.Proof.RefSoftmax

/-! The reference's mixture of heads, quantiser and product with the values read at one index. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- A row of the masked mixture. -/
theorem masked_at (w : Vec Ideal S5x4x4 .f32) (x : FVec Ideal S2x20x1024x1024 .f32) (b : Fin 2) (h : Fin 20) (i j : Fin 1024)
    (g : Fin 5) (o : Fin 4) (hh : h = Spec.hd g o) (f : Fin 4 → ℕ → ℕ → EReal)
    (hf : ∀ c, x (ix4 b (Spec.hd g c) i j) = f c i.val j.val) :
    masked (mix w x) (ix4 b h i j) = Spec.mixed (fun c => w (ix3 g o c)) f i.val j.val := by
  have hi := i.isLt
  have hj := j.isLt
  have hv : h.val = 4 * g.val + o.val := congrArg Fin.val hh
  have ho := o.isLt
  have hg := g.isLt
  have hl := h.isLt
  have eg : (⟨h.val / 4, by omega⟩ : Fin 5) = g := Fin.ext (by show h.val / 4 = g.val; omega)
  have eo : (⟨h.val % 4, by omega⟩ : Fin 4) = o := Fin.ext (by show h.val % 4 = o.val; omega)
  have e : ∀ (c : Fin 4) (hc : h.val / 4 * 4 + c.val < 20), x (ix4 b ⟨h.val / 4 * 4 + c.val, hc⟩ i j) = f c i.val j.val :=
    fun c hc => (congrArg (fun a => x (ix4 b a i j)) (Fin.ext (by show h.val / 4 * 4 + c.val = 4 * g.val + c.val; omega))).trans (hf c)
  have ew : ∀ c : Fin 4, w (ix3 ⟨h.val / 4, by omega⟩ ⟨h.val % 4, by omega⟩ c) = w (ix3 g o c) := fun c => by rw [eg, eo]
  unfold Spec.mixed
  pointwise [masked, mix, mix0, mix1, mix2, mix3]
  refine (select_iff (p := j.val ≤ i.val) ?_ _ _).trans ?_
  · rw [IntOp.cmpi_sle, toInt_ofNat (by omega), toInt_ofNat (by omega)]
    omega
  · by_cases hc : j.val ≤ i.val
    · refine (if_pos hc).trans (Eq.trans ?_ (if_pos hc).symm)
      exact congrArg₂ _ (congrArg₂ _ (congrArg₂ _ (congrArg₂ _ (ew 0) (e 0 (by show _ + 0 < _; omega)))
        (congrArg₂ _ (ew 1) (e 1 (by show _ + 1 < _; omega)))) (congrArg₂ _ (ew 2) (e 2 (by show _ + 2 < _; omega))))
        (congrArg₂ _ (ew 3) (e 3 (by show _ + 3 < _; omega)))
    · exact (if_neg hc).trans (Consts.ofBits_bot.trans (if_neg hc).symm)

end Cert.ReferenceIdeal.Block
-- ==== Proof.RefOut.lean ====
module

public import proofs.«01_k».proof.Proof.RefLogits
public import proofs.«01_k».proof.Proof.RefSoftmax

/-! The reference's quantiser and product with the values read at one index. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- The exponent of a row. -/
theorem expov_at (y : FVec Ideal S2x20x1024x1 .f32) (b : Fin 2) (h : Fin 20) (i : Fin 1024) :
    expov y (ix4 b h i 0) = Exponent.expo (y (ix4 b h i 0)) := by
  unfold Exponent.expo
  pointwise [expov]
  rw [Consts.ofBits_pw]
  exact congrArg (fun z => Ideal.liftRound Int.floor (Ideal.div _ (Ideal.log z)) + 1) Consts.ofBits_two

/-- A code before its rounding. -/
theorem codes_at (p : FVec Ideal S2x20x1024x1024 .f32) (e : FVec Ideal S2x20x1024x1 .f32) (b : Fin 2) (h : Fin 20) (i j : Fin 1024) :
    codes p e (ix4 b h i j) = min (Ideal.ofBits .f32 0x43E00000#32) (max (Ideal.ofBits .f32 0xC3E00000#32)
      (p (ix4 b h i j) * Ideal.exp2 (0 - e (ix4 b h i 0)))) := by
  pointwise [codes]
  rfl

/-- The product of the codes with the values, scaled back. -/
def prodv (z : FVec Ideal S2x20x1024x1024 .fp8e4m3) (e : FVec Ideal S2x20x1024x1 .f32) (v : Vec Ideal S2x20x1024x128 .fp8e4m3) :
    FVec Ideal S2x20x1024x128 .f32 :=
  mulf (shapeCast S2x20x1024x128 (matmul (φ₁ := .fp8e4m3) (φ₂ := .fp8e4m3) dot_S40x1024x1024_S40x1024x128_S40x1024x128_2_1_1_2_0_0 none
      (shapeCast S40x1024x1024 z shapeCasts_S2x20x1024x1024_S40x1024x1024)
      (shapeCast S40x1024x128 (shapeCast S2x20x1024x128 v shapeCasts_S2x20x1024x128_S2x20x1024x128) shapeCasts_S2x20x1024x128_S40x1024x128)
      (constant S40x1024x128 .f32 0x00000000#32)) shapeCasts_S40x1024x128_S2x20x1024x128)
    (broadcastTo S2x20x1024x128 (exp2 e) broadcasts_S2x20x1024x1_S2x20x1024x128)

/-- The last stage in its two parts, the codes and the product. -/
theorem outv_eq (p : FVec Ideal S2x20x1024x1024 .f32) (v : Vec Ideal S2x20x1024x128 .fp8e4m3) :
    outv p v = prodv (codes p (expov (rowMax p))) (expov (rowMax p)) v := rfl

/-- An entry of the product is the sum over the keys, times the row's scale. -/
theorem prodv_at (z : FVec Ideal S2x20x1024x1024 .fp8e4m3) (e : FVec Ideal S2x20x1024x1 .f32) (v : Vec Ideal S2x20x1024x128 .fp8e4m3)
    (b : Fin 2) (h : Fin 20) (i : Fin 1024) (d : Fin 128) :
    prodv z e v (ix4 b h i d) = (∑ j : Fin 1024, z (ix4 b h i j) * v (ix4 b h j d)) * Ideal.exp2 (e (ix4 b h i 0)) := by
  have hb := b.isLt
  have hh := h.isLt
  pointwise [prodv]
  rfl

/-- The last scale, the transposition and the joining of heads. -/
theorem last_at (x : FVec Ideal S2x20x1024x128 .f32) (s : Vec Ideal S20 .f32) (b : Fin 2) (i : Fin 1024) (l : Fin 2560) (h : Fin 20)
    (d : Fin 128) (hh : h.val = l.val / 128) (hd : d.val = l.val % 128) :
    k0_pay1 x s (ix3 b i l) = x (ix4 b h i d) * s (ix1 h) := by
  have hl := l.isLt
  have e2 : (⟨l.val / 128, by omega⟩ : Fin 20) = h := Fin.ext hh.symm
  have e3 : (⟨l.val % 128, by omega⟩ : Fin 128) = d := Fin.ext hd.symm
  pointwise [k0_pay1]
  rw [e2, e3]

/-- One entry of the output. -/
theorem out_at (x : FVec Ideal S2x20x1024x1024 .f32) (v : Vec Ideal S2x20x1024x128 .fp8e4m3) (s : Vec Ideal S20 .f32)
    (b : Fin 2) (i : Fin 1024) (l : Fin 2560) (h : Fin 20) (d : Fin 128) (hh : h.val = l.val / 128) (hd : d.val = l.val % 128) :
    k0_pay1 (outv (softmax x) v) s (ix3 b i l)
      = Spec.out (fun k => x (ix4 b h i k)) (fun k => v (ix4 b h k d)) (s (ix1 h)) := by
  have e : expov (rowMax (softmax x)) (ix4 b h i 0) = Exponent.expo (Spec.amax (fun k => x (ix4 b h i k))) := by
    rw [expov_at, rowMax_at]
  rw [last_at _ s b i l h d hh hd, outv_eq, prodv_at, e]
  unfold Spec.out Spec.dot
  refine congrArg (· * _) (congrArg (· * _) (Finset.sum_congr rfl fun k _ => congrArg (· * _) ?_))
  rw [codes_at, e, softmax_at]

end Cert.ReferenceIdeal.Block
-- ==== Proof.RefHead.lean ====
module

public import proofs.«01_k».proof.Proof.RefConv
public import proofs.«01_k».proof.Proof.RefMix
public import proofs.«01_k».proof.Proof.RefOut

/-! One entry of the reference's output, in plain arithmetic on the entries of its arguments. -/

@[expose] public section

set_option maxRecDepth 16384

noncomputable section

namespace Cert.ReferenceIdeal.Block

open Cert.ReferenceIdeal Cert.ReferenceIdeal.Gen Idealize.ShloMosaic Idealize.ShloMosaic.TcCoe Idealize.SL.Sem

/-- One entry of the output: the head its column lies in, row and column within the head. -/
theorem outR_at (X0 X1 X2 : Vec Ideal S2x20x1024x128 .fp8e4m3) (X3 X4 : Vec Ideal S20 .f32) (X5 : Vec Ideal S20x6x11 .f32)
    (X6 : Vec Ideal S5x4x4 .f32) (b : Fin 2) (i : Fin 1024) (l : Fin 2560) :
    outR X0 X1 X2 X3 X4 X5 X6 (ix3 b i l) = Spec.head (fun h => X3 (ix1 h)) (fun h => X4 (ix1 h)) (fun h a c => X5 (ix3 h a c))
      (fun g o k => X6 (ix3 g o k)) (fun h n d => X0 (ix4 b h (Fin.ofNat 1024 n) d)) (fun h n d => X1 (ix4 b h (Fin.ofNat 1024 n) d))
      (fun h n d => X2 (ix4 b h (Fin.ofNat 1024 n) d)) ⟨l.val / 512, by have := l.isLt; omega⟩ ⟨l.val / 128 % 4, by omega⟩ i.val
      ⟨l.val % 128, by omega⟩ := by
  have hl := l.isLt
  generalize hg : (⟨l.val / 512, by have := l.isLt; omega⟩ : Fin 5) = g
  generalize ho : (⟨l.val / 128 % 4, by omega⟩ : Fin 4) = o
  generalize hd : (⟨l.val % 128, by omega⟩ : Fin 128) = d
  have hgv : l.val / 512 = g.val := congrArg Fin.val hg
  have hov : l.val / 128 % 4 = o.val := congrArg Fin.val ho
  have hdv : l.val % 128 = d.val := congrArg Fin.val hd
  have hm : (fun k => masked (mix X6 (conv X5 (padded X0 X1 X3))) (ix4 b (Spec.hd g o) i k)) = fun j : Fin 1024 =>
      Spec.row (fun h => X3 (ix1 h)) (fun h a c => X5 (ix3 h a c)) (fun g o k => X6 (ix3 g o k))
        (fun h n d => X0 (ix4 b h (Fin.ofNat 1024 n) d)) (fun h n d => X1 (ix4 b h (Fin.ofNat 1024 n) d)) g o i.val j.val :=
    funext fun k => masked_at _ _ b _ i k g o rfl _ fun c => conv_at _ _ b _ _ (fun r j => padded_at X0 X1 X3 b _ r j) i k
  have hv : (fun k => X2 (ix4 b (Spec.hd g o) k d)) = fun j : Fin 1024 => X2 (ix4 b (Spec.hd g o) (Fin.ofNat 1024 j.val) d) :=
    funext fun k => congrArg (fun a => X2 (ix4 b (Spec.hd g o) a d))
      (Fin.ext (by have := k.isLt; show k.val = k.val % 1024; omega))
  unfold outR Spec.head
  rw [out_at _ _ _ b i l (Spec.hd g o) d (by show 4 * g.val + o.val = _; omega) hdv.symm, hm, hv]

end Cert.ReferenceIdeal.Block
-- ==== Proof.RefArr.lean ====
module

public import proofs.«01_k».proof.Proof.RefPoint
public import proofs.«01_k».proof.Proof.RefHead

/-! The array the reference leaves is the result of `Spec` on its arguments. -/

@[expose] public section

set_option maxRecDepth 16384

noncomputable section

namespace Cert.ReferenceIdeal.Value

open Cert.ReferenceIdeal Cert.ReferenceIdeal.Gen Cert.ReferenceIdeal.Block Idealize.ShloMosaic Idealize.ShloMosaic.TcCoe Idealize.SL.Sem
open Idealize.ShloMosaic.Pipeline (Dat)

variable (m : (ℓ : Loc nD τ sig) → Buf (Elt Ideal) ℓ)

/-- Every window stands at its array's first entry. -/
theorem idx : ∀ t : Fin cfg0.N,
    win0_0.index t = ![0, 0, 0, 0] ∧ win0_1.index t = ![0, 0, 0, 0] ∧ win0_2.index t = ![0, 0, 0, 0] ∧ win0_3.index t = ![0] ∧ win0_4.index t = ![0] ∧ win0_5.index t = ![0, 0, 0] ∧ win0_6.index t = ![0, 0, 0] ∧ win0_7.index t = ![0, 0, 0] :=
  (by decide +kernel : ∀ t : Fin grid0.N, _)

/-! ## Where a block's entries stand in its array -/

/-- The queries: the block is the whole array, so an entry stands at its own index. -/
theorem emb0 (t : Fin cfg0.N) (b : Fin 2) (h : Fin 20) (n : Fin 1024) (d : Fin 128) :
    ((View.whole main_v0).slice (win0_0.rect t)).emb (ix4 b h n d) = ix4 b h n d := by
  have e := (idx t).1
  funext a
  match a with
  | ⟨0, _⟩ => exact Fin.ext (by
      show win0_0.index t 0 * 2 + 1 * b.val = b.val
      rw [e]
      first | rfl | (show _ * _ + _ = _; simp only [Matrix.cons_val]; omega))
  | ⟨1, _⟩ => exact Fin.ext (by
      show win0_0.index t 1 * 20 + 1 * h.val = h.val
      rw [e]
      first | rfl | (show _ * _ + _ = _; simp only [Matrix.cons_val]; omega))
  | ⟨2, _⟩ => exact Fin.ext (by
      show win0_0.index t 2 * 1024 + 1 * n.val = n.val
      rw [e]
      first | rfl | (show _ * _ + _ = _; simp only [Matrix.cons_val]; omega))
  | ⟨3, _⟩ => exact Fin.ext (by
      show win0_0.index t 3 * 128 + 1 * d.val = d.val
      rw [e]
      first | rfl | (show _ * _ + _ = _; simp only [Matrix.cons_val]; omega))

/-- The keys: the block is the whole array, so an entry stands at its own index. -/
theorem emb1 (t : Fin cfg0.N) (b : Fin 2) (h : Fin 20) (n : Fin 1024) (d : Fin 128) :
    ((View.whole main_v1).slice (win0_1.rect t)).emb (ix4 b h n d) = ix4 b h n d := by
  have e := (idx t).2.1
  funext a
  match a with
  | ⟨0, _⟩ => exact Fin.ext (by
      show win0_1.index t 0 * 2 + 1 * b.val = b.val
      rw [e]
      first | rfl | (show _ * _ + _ = _; simp only [Matrix.cons_val]; omega))
  | ⟨1, _⟩ => exact Fin.ext (by
      show win0_1.index t 1 * 20 + 1 * h.val = h.val
      rw [e]
      first | rfl | (show _ * _ + _ = _; simp only [Matrix.cons_val]; omega))
  | ⟨2, _⟩ => exact Fin.ext (by
      show win0_1.index t 2 * 1024 + 1 * n.val = n.val
      rw [e]
      first | rfl | (show _ * _ + _ = _; simp only [Matrix.cons_val]; omega))
  | ⟨3, _⟩ => exact Fin.ext (by
      show win0_1.index t 3 * 128 + 1 * d.val = d.val
      rw [e]
      first | rfl | (show _ * _ + _ = _; simp only [Matrix.cons_val]; omega))

/-- The values: the block is the whole array, so an entry stands at its own index. -/
theorem emb2 (t : Fin cfg0.N) (b : Fin 2) (h : Fin 20) (n : Fin 1024) (d : Fin 128) :
    ((View.whole main_v2).slice (win0_2.rect t)).emb (ix4 b h n d) = ix4 b h n d := by
  have e := (idx t).2.2.1
  funext a
  match a with
  | ⟨0, _⟩ => exact Fin.ext (by
      show win0_2.index t 0 * 2 + 1 * b.val = b.val
      rw [e]
      first | rfl | (show _ * _ + _ = _; simp only [Matrix.cons_val]; omega))
  | ⟨1, _⟩ => exact Fin.ext (by
      show win0_2.index t 1 * 20 + 1 * h.val = h.val
      rw [e]
      first | rfl | (show _ * _ + _ = _; simp only [Matrix.cons_val]; omega))
  | ⟨2, _⟩ => exact Fin.ext (by
      show win0_2.index t 2 * 1024 + 1 * n.val = n.val
      rw [e]
      first | rfl | (show _ * _ + _ = _; simp only [Matrix.cons_val]; omega))
  | ⟨3, _⟩ => exact Fin.ext (by
      show win0_2.index t 3 * 128 + 1 * d.val = d.val
      rw [e]
      first | rfl | (show _ * _ + _ = _; simp only [Matrix.cons_val]; omega))

/-- The query-key scales: the block is the whole array, so an entry stands at its own index. -/
theorem emb3 (t : Fin cfg0.N) (h : Fin 20) :
    ((View.whole main_v5).slice (win0_3.rect t)).emb (ix1 h) = ix1 h := by
  have e := (idx t).2.2.2.1
  funext a
  match a with
  | ⟨0, _⟩ => exact Fin.ext (by
      show win0_3.index t 0 * 20 + 1 * h.val = h.val
      rw [e]
      first | rfl | (show _ * _ + _ = _; simp only [Matrix.cons_val]; omega))

/-- The value scales: the block is the whole array, so an entry stands at its own index. -/
theorem emb4 (t : Fin cfg0.N) (h : Fin 20) :
    ((View.whole main_arg5).slice (win0_4.rect t)).emb (ix1 h) = ix1 h := by
  have e := (idx t).2.2.2.2.1
  funext a
  match a with
  | ⟨0, _⟩ => exact Fin.ext (by
      show win0_4.index t 0 * 20 + 1 * h.val = h.val
      rw [e]
      first | rfl | (show _ * _ + _ = _; simp only [Matrix.cons_val]; omega))

/-- The convolution weights: the block is the whole array, so an entry stands at its own index. -/
theorem emb5 (t : Fin cfg0.N) (h : Fin 20) (a1 : Fin 6) (c1 : Fin 11) :
    ((View.whole main_arg6).slice (win0_5.rect t)).emb (ix3 h a1 c1) = ix3 h a1 c1 := by
  have e := (idx t).2.2.2.2.2.1
  funext a
  match a with
  | ⟨0, _⟩ => exact Fin.ext (by
      show win0_5.index t 0 * 20 + 1 * h.val = h.val
      rw [e]
      first | rfl | (show _ * _ + _ = _; simp only [Matrix.cons_val]; omega))
  | ⟨1, _⟩ => exact Fin.ext (by
      show win0_5.index t 1 * 6 + 1 * a1.val = a1.val
      rw [e]
      first | rfl | (show _ * _ + _ = _; simp only [Matrix.cons_val]; omega))
  | ⟨2, _⟩ => exact Fin.ext (by
      show win0_5.index t 2 * 11 + 1 * c1.val = c1.val
      rw [e]
      first | rfl | (show _ * _ + _ = _; simp only [Matrix.cons_val]; omega))

/-- The mixing weights: the block is the whole array, so an entry stands at its own index. -/
theorem emb6 (t : Fin cfg0.N) (g : Fin 5) (o : Fin 4) (k : Fin 4) :
    ((View.whole main_arg7).slice (win0_6.rect t)).emb (ix3 g o k) = ix3 g o k := by
  have e := (idx t).2.2.2.2.2.2.1
  funext a
  match a with
  | ⟨0, _⟩ => exact Fin.ext (by
      show win0_6.index t 0 * 5 + 1 * g.val = g.val
      rw [e]
      first | rfl | (show _ * _ + _ = _; simp only [Matrix.cons_val]; omega))
  | ⟨1, _⟩ => exact Fin.ext (by
      show win0_6.index t 1 * 4 + 1 * o.val = o.val
      rw [e]
      first | rfl | (show _ * _ + _ = _; simp only [Matrix.cons_val]; omega))
  | ⟨2, _⟩ => exact Fin.ext (by
      show win0_6.index t 2 * 4 + 1 * k.val = k.val
      rw [e]
      first | rfl | (show _ * _ + _ = _; simp only [Matrix.cons_val]; omega))

/-- The output: the block is the whole array, so an entry stands at its own index. -/
theorem emb7 (t : Fin cfg0.N) (b : Fin 2) (r : Fin 1024) (l : Fin 2560) :
    ((View.whole main_v6).slice (win0_7.rect t)).emb (ix3 b r l) = ix3 b r l := by
  have e := (idx t).2.2.2.2.2.2.2
  funext a
  match a with
  | ⟨0, _⟩ => exact Fin.ext (by
      show win0_7.index t 0 * 2 + 1 * b.val = b.val
      rw [e]
      first | rfl | (show _ * _ + _ = _; simp only [Matrix.cons_val]; omega))
  | ⟨1, _⟩ => exact Fin.ext (by
      show win0_7.index t 1 * 1024 + 1 * r.val = r.val
      rw [e]
      first | rfl | (show _ * _ + _ = _; simp only [Matrix.cons_val]; omega))
  | ⟨2, _⟩ => exact Fin.ext (by
      show win0_7.index t 2 * 2560 + 1 * l.val = l.val
      rw [e]
      first | rfl | (show _ * _ + _ = _; simp only [Matrix.cons_val]; omega))

/-! ## The blocks' entries as entries of the arguments -/

/-- The queries' scale of a head. -/
def qsc (c : Dev nD) (h : Fin 20) : EReal := m ((c : Thread nD τ).loc main_arg1) (ix1 h)

/-- The keys' scale of a head. -/
def ksc (c : Dev nD) (h : Fin 20) : EReal := m ((c : Thread nD τ).loc main_arg3) (ix1 h)

/-- A query is the argument's, head and row exchanged. -/
theorem blk0 (c : Dev nD) (t : Fin cfg0.N) (b : Fin 2) (h : Fin 20) (n : Fin 1024) (d : Fin 128) :
    iblk m c 0 t (ix4 b h n d) = m ((c : Thread nD τ).loc main_arg0) (ix4 b n h d) := by
  blk_simp [iblk, V, idx t]
  entry_read
  refine (congrArg _ (emb0 t b h n d)).trans ?_
  pointwise

/-- A key is the argument's, head and row exchanged. -/
theorem blk1 (c : Dev nD) (t : Fin cfg0.N) (b : Fin 2) (h : Fin 20) (n : Fin 1024) (d : Fin 128) :
    iblk m c 1 t (ix4 b h n d) = m ((c : Thread nD τ).loc main_arg2) (ix4 b n h d) := by
  blk_simp [iblk, V, idx t]
  entry_read
  refine (congrArg _ (emb1 t b h n d)).trans ?_
  pointwise

/-- A value is the argument's, head and row exchanged. -/
theorem blk2 (c : Dev nD) (t : Fin cfg0.N) (b : Fin 2) (h : Fin 20) (n : Fin 1024) (d : Fin 128) :
    iblk m c 2 t (ix4 b h n d) = m ((c : Thread nD τ).loc main_arg4) (ix4 b n h d) := by
  blk_simp [iblk, V, idx t]
  entry_read
  refine (congrArg _ (emb2 t b h n d)).trans ?_
  pointwise

/-- A query-key scale is the product of the two scales and the constant. -/
theorem blk3 (c : Dev nD) (t : Fin cfg0.N) (h : Fin 20) : (iblk m c 3 t : Vec Ideal S20 .f32) (ix1 h) =
    qsc m c h * ksc m c h * Ideal.ofBits .f32 0x3DB504F3#32 := by
  blk_simp [iblk, V, idx t]
  entry_read
  refine (congrArg _ (emb3 t h)).trans ?_
  pointwise
  try rfl

/-- A value scale is the argument's. -/
theorem blk4 (c : Dev nD) (t : Fin cfg0.N) (h : Fin 20) : iblk m c 4 t (ix1 h) = m ((c : Thread nD τ).loc main_arg5) (ix1 h) := by
  blk_ext [iblk, V, idx t]

/-- A convolution weight is the argument's. -/
theorem blk5 (c : Dev nD) (t : Fin cfg0.N) (h : Fin 20) (a : Fin 6) (k : Fin 11) :
    iblk m c 5 t (ix3 h a k) = m ((c : Thread nD τ).loc main_arg6) (ix3 h a k) := by
  blk_ext [iblk, V, idx t]

/-- A mixing weight is the argument's. -/
theorem blk6 (c : Dev nD) (t : Fin cfg0.N) (g : Fin 5) (o k : Fin 4) :
    iblk m c 6 t (ix3 g o k) = m ((c : Thread nD τ).loc main_arg7) (ix3 g o k) := by
  blk_ext [iblk, V, idx t]

/-! ## The array -/

/-- The result on the reference's arguments. -/
def G (c : Dev nD) : S2x1024x2560.Idx → EReal := fun y => Spec.result
  (fun b s h d => m ((c : Thread nD τ).loc main_arg0) (ix4 b s h d)) (fun h => m ((c : Thread nD τ).loc main_arg1) (ix1 h))
  (fun b s h d => m ((c : Thread nD τ).loc main_arg2) (ix4 b s h d)) (fun h => m ((c : Thread nD τ).loc main_arg3) (ix1 h))
  (fun b s h d => m ((c : Thread nD τ).loc main_arg4) (ix4 b s h d)) (fun h => m ((c : Thread nD τ).loc main_arg5) (ix1 h))
  (fun h a k => m ((c : Thread nD τ).loc main_arg6) (ix3 h a k)) (fun g o k => m ((c : Thread nD τ).loc main_arg7) (ix3 g o k))
  (y 0) (y 1) (y 2)

/-- The output from arguments known entry by entry. -/
theorem outR_result (X0 X1 X2 : Vec Ideal S2x20x1024x128 .fp8e4m3) (X3 X4 : Vec Ideal S20 .f32) (X5 : Vec Ideal S20x6x11 .f32)
    (X6 : Vec Ideal S5x4x4 .f32) (Q : Fin 2 → Fin 1024 → Fin 20 → Fin 128 → EReal) (qs : Fin 20 → EReal)
    (K : Fin 2 → Fin 1024 → Fin 20 → Fin 128 → EReal) (ks : Fin 20 → EReal)
    (V : Fin 2 → Fin 1024 → Fin 20 → Fin 128 → EReal) (vs : Fin 20 → EReal)
    (th : Fin 20 → Fin 6 → Fin 11 → EReal) (w : Fin 5 → Fin 4 → Fin 4 → EReal)
    (h0 : ∀ b h n d, X0 (ix4 b h n d) = Q b n h d) (h1 : ∀ b h n d, X1 (ix4 b h n d) = K b n h d)
    (h2 : ∀ b h n d, X2 (ix4 b h n d) = V b n h d) (h3 : ∀ h, X3 (ix1 h) = qs h * ks h * Ideal.ofBits .f32 0x3DB504F3#32)
    (h4 : ∀ h, X4 (ix1 h) = vs h) (h5 : ∀ h a c, X5 (ix3 h a c) = th h a c) (h6 : ∀ g o k, X6 (ix3 g o k) = w g o k)
    (b : Fin 2) (i : Fin 1024) (l : Fin 2560) :
    outR X0 X1 X2 X3 X4 X5 X6 (ix3 b i l) = Spec.result Q qs K ks V vs th w b i l := by
  rw [outR_at]
  unfold Spec.result
  simp only [h0, h1, h2, h3, h4, h5, h6]

/-- What the grid point stores, at one index of its block, is the result at the index that block index stands for. -/
theorem out_G (c : Dev nD) (t : Fin cfg0.N) (b : Fin 2) (i : Fin 1024) (l : Fin 2560) :
    outR (iblk m c 0 t) (iblk m c 1 t) (iblk m c 2 t) (iblk m c 3 t) (iblk m c 4 t)
      (iblk m c 5 t) (iblk m c 6 t) (ix3 b i l) = G m c (ix3 b i l) :=
  outR_result _ _ _ _ _ _ _
    (fun b s h d => m ((c : Thread nD τ).loc main_arg0) (ix4 b s h d)) (qsc m c)
    (fun b s h d => m ((c : Thread nD τ).loc main_arg2) (ix4 b s h d)) (ksc m c)
    (fun b s h d => m ((c : Thread nD τ).loc main_arg4) (ix4 b s h d)) (fun h => m ((c : Thread nD τ).loc main_arg5) (ix1 h))
    (fun h a k => m ((c : Thread nD τ).loc main_arg6) (ix3 h a k)) (fun g o k => m ((c : Thread nD τ).loc main_arg7) (ix3 g o k))
    (blk0 m c t) (blk1 m c t) (blk2 m c t) (blk3 m c t) (blk4 m c t) (blk5 m c t) (blk6 m c t) b i l

/-- The reference's array is the result. -/
theorem arr (c : Dev nD) : (dats m 0 c).arrAt 7 cfg0.N = G m c := by
  refine (dats m 0 c).arrAt_eq_of_covers 7 _ (by decide +kernel) fun t _ y => ?_
  blk_simp
  rw [after0_7, out0_7_eq]
  have hy : (y : S2x1024x2560.Idx) = ix3 (y 0) (y 1) (y 2) := by
    funext a
    match a with
    | ⟨0, _⟩ => rfl
    | ⟨1, _⟩ => rfl
    | ⟨2, _⟩ => rfl
  exact (congrArg _ hy).trans ((out_G m c t (y 0) (y 1) (y 2)).trans (congrArg (G m c) ((congrArg _ hy).trans (emb7 t (y 0) (y 1) (y 2))).symm))

end Cert.ReferenceIdeal.Value
-- ==== Proof.Equation.lean ====
module

public import proofs.«01_k».proof.Defs
public import proofs.«01_k».proof.Proof.KernelArr
public import proofs.«01_k».proof.Proof.RefArr

/-! The kernel and the reference end with equal results. -/

@[expose] public section

namespace Cert.Proof

open Idealize.ShloMosaic Idealize.ShloMosaic.TcCoe Idealize.SL.Sem

/-- From memories agreeing on the arguments the two programs' results are one function. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.G m' c = Cert.KernelIdeal.Value.G m c := by
  unfold Cert.ReferenceIdeal.Value.G Cert.KernelIdeal.Value.G
  rw [h0, h1, h2, h3, h4, h5, h6, h7]

/-- The kernel computes the reference's result. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Value.G m c,
    (θ_run _ _ _).mono (fun _ h c => ⟨(h c).1.trans (Cert.KernelIdeal.Value.arr m c), (h c).2⟩)
      (Cert.KernelIdeal.Value.run_blocks m g),
    (θ_run _ _ _).mono (fun _ h c => ⟨(h c).1.trans ((Cert.ReferenceIdeal.Value.arr m' c).trans
        (results_eq m m' c (hag c).1 (hag c).2.1 (hag c).2.2.1 (hag c).2.2.2.1 (hag c).2.2.2.2.1 (hag c).2.2.2.2.2.1
          (hag c).2.2.2.2.2.2.1 (hag c).2.2.2.2.2.2.2)), (h c).2⟩)
      (Cert.ReferenceIdeal.Value.run_blocks m' g')⟩

end Cert.Proof
-- ==== Proof.lean ====
module

public import proofs.«01_k».proof.Defs
public import proofs.«01_k».proof.Proof.Gen.Kernel.Frame
public import proofs.«01_k».proof.Proof.Equation

@[expose] public section

/-- The frames of the three programs, the kernel's idealization, and the equality of the results. -/
theorem Cert.Proof.claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ, trivial,
    Cert.Proof.algebraic⟩
